-- ==== Defs.lean ====
def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Momentum (m : (ℓ : Loc Cert.Momentum.nD Cert.Momentum.τ Cert.Momentum.sig) → Buf (Elt Bits) ℓ) : Prop :=
  True

def Pre_MomentumIdeal (m : (ℓ : Loc Cert.MomentumIdeal.nD Cert.MomentumIdeal.τ Cert.MomentumIdeal.sig) → Buf (Elt Ideal) ℓ) : Prop :=
  True

def Pre_MomentumRefIdeal (m : (ℓ : Loc Cert.MomentumRefIdeal.nD Cert.MomentumRefIdeal.τ Cert.MomentumRefIdeal.sig) → Buf (Elt Ideal) ℓ) : Prop :=
  True

def Pre_Apply (m : (ℓ : Loc Cert.Apply.nD Cert.Apply.τ Cert.Apply.sig) → Buf (Elt Bits) ℓ) : Prop :=
  True

def Pre_ApplyIdeal (m : (ℓ : Loc Cert.ApplyIdeal.nD Cert.ApplyIdeal.τ Cert.ApplyIdeal.sig) → Buf (Elt Ideal) ℓ) : Prop :=
  True

def Pre_ApplyRefIdeal (m : (ℓ : Loc Cert.ApplyRefIdeal.nD Cert.ApplyRefIdeal.τ Cert.ApplyRefIdeal.sig) → Buf (Elt Ideal) ℓ) : Prop :=
  True

def Pre_XZero (m : (ℓ : Loc Cert.XZero.nD Cert.XZero.τ Cert.XZero.sig) → Buf (Elt Bits) ℓ) : Prop :=
  True

def Pre_XZeroIdeal (m : (ℓ : Loc Cert.XZeroIdeal.nD Cert.XZeroIdeal.τ Cert.XZeroIdeal.sig) → Buf (Elt Ideal) ℓ) : Prop :=
  True

def Pre_XZeroRefIdeal (m : (ℓ : Loc Cert.XZeroRefIdeal.nD Cert.XZeroRefIdeal.τ Cert.XZeroRefIdeal.sig) → Buf (Elt Ideal) ℓ) : Prop :=
  True

def Pre_Gram (m : (ℓ : Loc Cert.Gram.nD Cert.Gram.τ Cert.Gram.sig) → Buf (Elt Bits) ℓ) : Prop :=
  True

def Pre_GramIdeal (m : (ℓ : Loc Cert.GramIdeal.nD Cert.GramIdeal.τ Cert.GramIdeal.sig) → Buf (Elt Ideal) ℓ) : Prop :=
  True

def Pre_GramRefIdeal (m : (ℓ : Loc Cert.GramRefIdeal.nD Cert.GramRefIdeal.τ Cert.GramRefIdeal.sig) → Buf (Elt Ideal) ℓ) : Prop :=
  True

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2))
      ∧ r.2.sem = fun _ => 0)

def quiescent_Momentum [hMomentum : Cert.Momentum.Facts] : Prop :=
  ∀ (m : (ℓ : Loc Cert.Momentum.nD Cert.Momentum.τ Cert.Momentum.sig) → Buf (Elt Bits) ℓ) (g : Dev Cert.Momentum.nD → PrngReg), Pre_Momentum m →
    θ_run (Cert.Momentum.defs (F := Bits)) (onTc (τ := Cert.Momentum.τ) (Cert.Momentum.main (F := Bits))) ⟨m, fun _ => 0, g⟩ (fun r => (∀ c : Dev Cert.Momentum.nD,
      r.2.mem ((c.tc : Thread Cert.Momentum.nD Cert.Momentum.τ).loc Cert.Momentum.main_arg0) = m ((c.tc : Thread Cert.Momentum.nD Cert.Momentum.τ).loc Cert.Momentum.main_arg0)
      ∧ r.2.mem ((c.tc : Thread Cert.Momentum.nD Cert.Momentum.τ).loc Cert.Momentum.main_arg1) = m ((c.tc : Thread Cert.Momentum.nD Cert.Momentum.τ).loc Cert.Momentum.main_arg1)
      ∧ r.2.mem ((c.tc : Thread Cert.Momentum.nD Cert.Momentum.τ).loc Cert.Momentum.main_arg2) = m ((c.tc : Thread Cert.Momentum.nD Cert.Momentum.τ).loc Cert.Momentum.main_arg2))
      ∧ r.2.sem = fun _ => 0)

def quiescent_MomentumIdeal [hMomentumIdeal : Cert.MomentumIdeal.Facts] : Prop :=
  ∀ (m : (ℓ : Loc Cert.MomentumIdeal.nD Cert.MomentumIdeal.τ Cert.MomentumIdeal.sig) → Buf (Elt Ideal) ℓ) (g : Dev Cert.MomentumIdeal.nD → PrngReg), Pre_MomentumIdeal m →
    θ_run (Cert.MomentumIdeal.defs (F := Ideal)) (onTc (τ := Cert.MomentumIdeal.τ) (Cert.MomentumIdeal.main (F := Ideal))) ⟨m, fun _ => 0, g⟩ (fun r => (∀ c : Dev Cert.MomentumIdeal.nD,
      r.2.mem ((c.tc : Thread Cert.MomentumIdeal.nD Cert.MomentumIdeal.τ).loc Cert.MomentumIdeal.main_arg0) = m ((c.tc : Thread Cert.MomentumIdeal.nD Cert.MomentumIdeal.τ).loc Cert.MomentumIdeal.main_arg0)
      ∧ r.2.mem ((c.tc : Thread Cert.MomentumIdeal.nD Cert.MomentumIdeal.τ).loc Cert.MomentumIdeal.main_arg1) = m ((c.tc : Thread Cert.MomentumIdeal.nD Cert.MomentumIdeal.τ).loc Cert.MomentumIdeal.main_arg1)
      ∧ r.2.mem ((c.tc : Thread Cert.MomentumIdeal.nD Cert.MomentumIdeal.τ).loc Cert.MomentumIdeal.main_arg2) = m ((c.tc : Thread Cert.MomentumIdeal.nD Cert.MomentumIdeal.τ).loc Cert.MomentumIdeal.main_arg2))
      ∧ r.2.sem = fun _ => 0)

def quiescent_MomentumRefIdeal [hMomentumRefIdeal : Cert.MomentumRefIdeal.Facts] : Prop :=
  ∀ (m : (ℓ : Loc Cert.MomentumRefIdeal.nD Cert.MomentumRefIdeal.τ Cert.MomentumRefIdeal.sig) → Buf (Elt Ideal) ℓ) (g : Dev Cert.MomentumRefIdeal.nD → PrngReg), Pre_MomentumRefIdeal m →
    θ_run (Cert.MomentumRefIdeal.defs (F := Ideal)) (onTc (τ := Cert.MomentumRefIdeal.τ) (Cert.MomentumRefIdeal.main (F := Ideal))) ⟨m, fun _ => 0, g⟩ (fun r => (∀ c : Dev Cert.MomentumRefIdeal.nD,
      r.2.mem ((c.tc : Thread Cert.MomentumRefIdeal.nD Cert.MomentumRefIdeal.τ).loc Cert.MomentumRefIdeal.main_arg0) = m ((c.tc : Thread Cert.MomentumRefIdeal.nD Cert.MomentumRefIdeal.τ).loc Cert.MomentumRefIdeal.main_arg0)
      ∧ r.2.mem ((c.tc : Thread Cert.MomentumRefIdeal.nD Cert.MomentumRefIdeal.τ).loc Cert.MomentumRefIdeal.main_arg1) = m ((c.tc : Thread Cert.MomentumRefIdeal.nD Cert.MomentumRefIdeal.τ).loc Cert.MomentumRefIdeal.main_arg1)
      ∧ r.2.mem ((c.tc : Thread Cert.MomentumRefIdeal.nD Cert.MomentumRefIdeal.τ).loc Cert.MomentumRefIdeal.main_arg2) = m ((c.tc : Thread Cert.MomentumRefIdeal.nD Cert.MomentumRefIdeal.τ).loc Cert.MomentumRefIdeal.main_arg2))
      ∧ r.2.sem = fun _ => 0)

def quiescent_Apply [hApply : Cert.Apply.Facts] : Prop :=
  ∀ (m : (ℓ : Loc Cert.Apply.nD Cert.Apply.τ Cert.Apply.sig) → Buf (Elt Bits) ℓ) (g : Dev Cert.Apply.nD → PrngReg), Pre_Apply m →
    θ_run (Cert.Apply.defs (F := Bits)) (onTc (τ := Cert.Apply.τ) (Cert.Apply.main (F := Bits))) ⟨m, fun _ => 0, g⟩ (fun r => (∀ c : Dev Cert.Apply.nD,
      r.2.mem ((c.tc : Thread Cert.Apply.nD Cert.Apply.τ).loc Cert.Apply.main_arg0) = m ((c.tc : Thread Cert.Apply.nD Cert.Apply.τ).loc Cert.Apply.main_arg0)
      ∧ r.2.mem ((c.tc : Thread Cert.Apply.nD Cert.Apply.τ).loc Cert.Apply.main_arg1) = m ((c.tc : Thread Cert.Apply.nD Cert.Apply.τ).loc Cert.Apply.main_arg1))
      ∧ r.2.sem = fun _ => 0)

def quiescent_ApplyIdeal [hApplyIdeal : Cert.ApplyIdeal.Facts] : Prop :=
  ∀ (m : (ℓ : Loc Cert.ApplyIdeal.nD Cert.ApplyIdeal.τ Cert.ApplyIdeal.sig) → Buf (Elt Ideal) ℓ) (g : Dev Cert.ApplyIdeal.nD → PrngReg), Pre_ApplyIdeal m →
    θ_run (Cert.ApplyIdeal.defs (F := Ideal)) (onTc (τ := Cert.ApplyIdeal.τ) (Cert.ApplyIdeal.main (F := Ideal))) ⟨m, fun _ => 0, g⟩ (fun r => (∀ c : Dev Cert.ApplyIdeal.nD,
      r.2.mem ((c.tc : Thread Cert.ApplyIdeal.nD Cert.ApplyIdeal.τ).loc Cert.ApplyIdeal.main_arg0) = m ((c.tc : Thread Cert.ApplyIdeal.nD Cert.ApplyIdeal.τ).loc Cert.ApplyIdeal.main_arg0)
      ∧ r.2.mem ((c.tc : Thread Cert.ApplyIdeal.nD Cert.ApplyIdeal.τ).loc Cert.ApplyIdeal.main_arg1) = m ((c.tc : Thread Cert.ApplyIdeal.nD Cert.ApplyIdeal.τ).loc Cert.ApplyIdeal.main_arg1))
      ∧ r.2.sem = fun _ => 0)

def quiescent_ApplyRefIdeal [hApplyRefIdeal : Cert.ApplyRefIdeal.Facts] : Prop :=
  ∀ (m : (ℓ : Loc Cert.ApplyRefIdeal.nD Cert.ApplyRefIdeal.τ Cert.ApplyRefIdeal.sig) → Buf (Elt Ideal) ℓ) (g : Dev Cert.ApplyRefIdeal.nD → PrngReg), Pre_ApplyRefIdeal m →
    θ_run (Cert.ApplyRefIdeal.defs (F := Ideal)) (onTc (τ := Cert.ApplyRefIdeal.τ) (Cert.ApplyRefIdeal.main (F := Ideal))) ⟨m, fun _ => 0, g⟩ (fun r => (∀ c : Dev Cert.ApplyRefIdeal.nD,
      r.2.mem ((c.tc : Thread Cert.ApplyRefIdeal.nD Cert.ApplyRefIdeal.τ).loc Cert.ApplyRefIdeal.main_arg0) = m ((c.tc : Thread Cert.ApplyRefIdeal.nD Cert.ApplyRefIdeal.τ).loc Cert.ApplyRefIdeal.main_arg0)
      ∧ r.2.mem ((c.tc : Thread Cert.ApplyRefIdeal.nD Cert.ApplyRefIdeal.τ).loc Cert.ApplyRefIdeal.main_arg1) = m ((c.tc : Thread Cert.ApplyRefIdeal.nD Cert.ApplyRefIdeal.τ).loc Cert.ApplyRefIdeal.main_arg1))
      ∧ r.2.sem = fun _ => 0)

def quiescent_XZero [hXZero : Cert.XZero.Facts] : Prop :=
  ∀ (m : (ℓ : Loc Cert.XZero.nD Cert.XZero.τ Cert.XZero.sig) → Buf (Elt Bits) ℓ) (g : Dev Cert.XZero.nD → PrngReg), Pre_XZero m →
    θ_run (Cert.XZero.defs (F := Bits)) (onTc (τ := Cert.XZero.τ) (Cert.XZero.main (F := Bits))) ⟨m, fun _ => 0, g⟩ (fun r => (∀ c : Dev Cert.XZero.nD,
      r.2.mem ((c.tc : Thread Cert.XZero.nD Cert.XZero.τ).loc Cert.XZero.main_arg0) = m ((c.tc : Thread Cert.XZero.nD Cert.XZero.τ).loc Cert.XZero.main_arg0)
      ∧ r.2.mem ((c.tc : Thread Cert.XZero.nD Cert.XZero.τ).loc Cert.XZero.main_arg1) = m ((c.tc : Thread Cert.XZero.nD Cert.XZero.τ).loc Cert.XZero.main_arg1)
      ∧ r.2.mem ((c.tc : Thread Cert.XZero.nD Cert.XZero.τ).loc Cert.XZero.main_arg2) = m ((c.tc : Thread Cert.XZero.nD Cert.XZero.τ).loc Cert.XZero.main_arg2)
      ∧ r.2.mem ((c.tc : Thread Cert.XZero.nD Cert.XZero.τ).loc Cert.XZero.main_arg3) = m ((c.tc : Thread Cert.XZero.nD Cert.XZero.τ).loc Cert.XZero.main_arg3))
      ∧ r.2.sem = fun _ => 0)

def quiescent_XZeroIdeal [hXZeroIdeal : Cert.XZeroIdeal.Facts] : Prop :=
  ∀ (m : (ℓ : Loc Cert.XZeroIdeal.nD Cert.XZeroIdeal.τ Cert.XZeroIdeal.sig) → Buf (Elt Ideal) ℓ) (g : Dev Cert.XZeroIdeal.nD → PrngReg), Pre_XZeroIdeal m →
    θ_run (Cert.XZeroIdeal.defs (F := Ideal)) (onTc (τ := Cert.XZeroIdeal.τ) (Cert.XZeroIdeal.main (F := Ideal))) ⟨m, fun _ => 0, g⟩ (fun r => (∀ c : Dev Cert.XZeroIdeal.nD,
      r.2.mem ((c.tc : Thread Cert.XZeroIdeal.nD Cert.XZeroIdeal.τ).loc Cert.XZeroIdeal.main_arg0) = m ((c.tc : Thread Cert.XZeroIdeal.nD Cert.XZeroIdeal.τ).loc Cert.XZeroIdeal.main_arg0)
      ∧ r.2.mem ((c.tc : Thread Cert.XZeroIdeal.nD Cert.XZeroIdeal.τ).loc Cert.XZeroIdeal.main_arg1) = m ((c.tc : Thread Cert.XZeroIdeal.nD Cert.XZeroIdeal.τ).loc Cert.XZeroIdeal.main_arg1)
      ∧ r.2.mem ((c.tc : Thread Cert.XZeroIdeal.nD Cert.XZeroIdeal.τ).loc Cert.XZeroIdeal.main_arg2) = m ((c.tc : Thread Cert.XZeroIdeal.nD Cert.XZeroIdeal.τ).loc Cert.XZeroIdeal.main_arg2)
      ∧ r.2.mem ((c.tc : Thread Cert.XZeroIdeal.nD Cert.XZeroIdeal.τ).loc Cert.XZeroIdeal.main_arg3) = m ((c.tc : Thread Cert.XZeroIdeal.nD Cert.XZeroIdeal.τ).loc Cert.XZeroIdeal.main_arg3))
      ∧ r.2.sem = fun _ => 0)

def quiescent_XZeroRefIdeal [hXZeroRefIdeal : Cert.XZeroRefIdeal.Facts] : Prop :=
  ∀ (m : (ℓ : Loc Cert.XZeroRefIdeal.nD Cert.XZeroRefIdeal.τ Cert.XZeroRefIdeal.sig) → Buf (Elt Ideal) ℓ) (g : Dev Cert.XZeroRefIdeal.nD → PrngReg), Pre_XZeroRefIdeal m →
    θ_run (Cert.XZeroRefIdeal.defs (F := Ideal)) (onTc (τ := Cert.XZeroRefIdeal.τ) (Cert.XZeroRefIdeal.main (F := Ideal))) ⟨m, fun _ => 0, g⟩ (fun r => (∀ c : Dev Cert.XZeroRefIdeal.nD,
      r.2.mem ((c.tc : Thread Cert.XZeroRefIdeal.nD Cert.XZeroRefIdeal.τ).loc Cert.XZeroRefIdeal.main_arg0) = m ((c.tc : Thread Cert.XZeroRefIdeal.nD Cert.XZeroRefIdeal.τ).loc Cert.XZeroRefIdeal.main_arg0)
      ∧ r.2.mem ((c.tc : Thread Cert.XZeroRefIdeal.nD Cert.XZeroRefIdeal.τ).loc Cert.XZeroRefIdeal.main_arg1) = m ((c.tc : Thread Cert.XZeroRefIdeal.nD Cert.XZeroRefIdeal.τ).loc Cert.XZeroRefIdeal.main_arg1)
      ∧ r.2.mem ((c.tc : Thread Cert.XZeroRefIdeal.nD Cert.XZeroRefIdeal.τ).loc Cert.XZeroRefIdeal.main_arg2) = m ((c.tc : Thread Cert.XZeroRefIdeal.nD Cert.XZeroRefIdeal.τ).loc Cert.XZeroRefIdeal.main_arg2)
      ∧ r.2.mem ((c.tc : Thread Cert.XZeroRefIdeal.nD Cert.XZeroRefIdeal.τ).loc Cert.XZeroRefIdeal.main_arg3) = m ((c.tc : Thread Cert.XZeroRefIdeal.nD Cert.XZeroRefIdeal.τ).loc Cert.XZeroRefIdeal.main_arg3))
      ∧ r.2.sem = fun _ => 0)

def quiescent_Gram [hGram : Cert.Gram.Facts] : Prop :=
  ∀ (m : (ℓ : Loc Cert.Gram.nD Cert.Gram.τ Cert.Gram.sig) → Buf (Elt Bits) ℓ) (g : Dev Cert.Gram.nD → PrngReg), Pre_Gram m →
    θ_run (Cert.Gram.defs (F := Bits)) (onTc (τ := Cert.Gram.τ) (Cert.Gram.main (F := Bits))) ⟨m, fun _ => 0, g⟩ (fun r => (∀ c : Dev Cert.Gram.nD,
      r.2.mem ((c.tc : Thread Cert.Gram.nD Cert.Gram.τ).loc Cert.Gram.main_arg0) = m ((c.tc : Thread Cert.Gram.nD Cert.Gram.τ).loc Cert.Gram.main_arg0))
      ∧ r.2.sem = fun _ => 0)

def quiescent_GramIdeal [hGramIdeal : Cert.GramIdeal.Facts] : Prop :=
  ∀ (m : (ℓ : Loc Cert.GramIdeal.nD Cert.GramIdeal.τ Cert.GramIdeal.sig) → Buf (Elt Ideal) ℓ) (g : Dev Cert.GramIdeal.nD → PrngReg), Pre_GramIdeal m →
    θ_run (Cert.GramIdeal.defs (F := Ideal)) (onTc (τ := Cert.GramIdeal.τ) (Cert.GramIdeal.main (F := Ideal))) ⟨m, fun _ => 0, g⟩ (fun r => (∀ c : Dev Cert.GramIdeal.nD,
      r.2.mem ((c.tc : Thread Cert.GramIdeal.nD Cert.GramIdeal.τ).loc Cert.GramIdeal.main_arg0) = m ((c.tc : Thread Cert.GramIdeal.nD Cert.GramIdeal.τ).loc Cert.GramIdeal.main_arg0))
      ∧ r.2.sem = fun _ => 0)

def quiescent_GramRefIdeal [hGramRefIdeal : Cert.GramRefIdeal.Facts] : Prop :=
  ∀ (m : (ℓ : Loc Cert.GramRefIdeal.nD Cert.GramRefIdeal.τ Cert.GramRefIdeal.sig) → Buf (Elt Ideal) ℓ) (g : Dev Cert.GramRefIdeal.nD → PrngReg), Pre_GramRefIdeal m →
    θ_run (Cert.GramRefIdeal.defs (F := Ideal)) (onTc (τ := Cert.GramRefIdeal.τ) (Cert.GramRefIdeal.main (F := Ideal))) ⟨m, fun _ => 0, g⟩ (fun r => (∀ c : Dev Cert.GramRefIdeal.nD,
      r.2.mem ((c.tc : Thread Cert.GramRefIdeal.nD Cert.GramRefIdeal.τ).loc Cert.GramRefIdeal.main_arg0) = m ((c.tc : Thread Cert.GramRefIdeal.nD Cert.GramRefIdeal.τ).loc Cert.GramRefIdeal.main_arg0))
      ∧ r.2.sem = fun _ => 0)

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)) →
    ∃ (v0 : (c : Dev Cert.FinalIdeal.nD) → Buf (Elt Ideal) ((c.tc : Thread Cert.FinalIdeal.nD Cert.FinalIdeal.τ).loc Cert.FinalIdeal.main_v0_0)) (v1 : (c : Dev Cert.FinalIdeal.nD) → Buf (Elt Ideal) ((c.tc : Thread Cert.FinalIdeal.nD Cert.FinalIdeal.τ).loc Cert.FinalIdeal.main_v0_1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v0_0) = v0 c
          ∧ r.2.mem ((c.tc : Thread Cert.FinalIdeal.nD Cert.FinalIdeal.τ).loc Cert.FinalIdeal.main_v0_1) = v1 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v13) = v0 c
          ∧ r.2.mem ((c.tc : Thread Cert.FinalRefIdeal.nD Cert.FinalRefIdeal.τ).loc Cert.FinalRefIdeal.main_v14) = v1 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2))

def preserves_Momentum_MomentumIdeal : Prop :=
  True

def algebraic_MomentumIdeal_MomentumRefIdeal [hMomentumIdeal : Cert.MomentumIdeal.Facts] [hMomentumRefIdeal : Cert.MomentumRefIdeal.Facts] : Prop :=
  ∀ (m : (ℓ : Loc Cert.MomentumIdeal.nD Cert.MomentumIdeal.τ Cert.MomentumIdeal.sig) → Buf (Elt Ideal) ℓ) (g : Dev Cert.MomentumIdeal.nD → PrngReg)
    (m' : (ℓ : Loc Cert.MomentumRefIdeal.nD Cert.MomentumRefIdeal.τ Cert.MomentumRefIdeal.sig) → Buf (Elt Ideal) ℓ) (g' : Dev Cert.MomentumRefIdeal.nD → PrngReg), Pre_MomentumIdeal m →
    (∀ c : Dev Cert.MomentumIdeal.nD,
      m' ((c.tc : Thread Cert.MomentumRefIdeal.nD Cert.MomentumRefIdeal.τ).loc Cert.MomentumRefIdeal.main_arg0) = m ((c.tc : Thread Cert.MomentumIdeal.nD Cert.MomentumIdeal.τ).loc Cert.MomentumIdeal.main_arg0)
      ∧ m' ((c.tc : Thread Cert.MomentumRefIdeal.nD Cert.MomentumRefIdeal.τ).loc Cert.MomentumRefIdeal.main_arg1) = m ((c.tc : Thread Cert.MomentumIdeal.nD Cert.MomentumIdeal.τ).loc Cert.MomentumIdeal.main_arg1)
      ∧ m' ((c.tc : Thread Cert.MomentumRefIdeal.nD Cert.MomentumRefIdeal.τ).loc Cert.MomentumRefIdeal.main_arg2) = m ((c.tc : Thread Cert.MomentumIdeal.nD Cert.MomentumIdeal.τ).loc Cert.MomentumIdeal.main_arg2)) →
    ∃ (v0 : (c : Dev Cert.MomentumIdeal.nD) → Buf (Elt Ideal) ((c.tc : Thread Cert.MomentumIdeal.nD Cert.MomentumIdeal.τ).loc Cert.MomentumIdeal.main_v0_0)) (v1 : (c : Dev Cert.MomentumIdeal.nD) → Buf (Elt Ideal) ((c.tc : Thread Cert.MomentumIdeal.nD Cert.MomentumIdeal.τ).loc Cert.MomentumIdeal.main_v0_1)) (v2 : (c : Dev Cert.MomentumIdeal.nD) → Buf (Elt Ideal) ((c.tc : Thread Cert.MomentumIdeal.nD Cert.MomentumIdeal.τ).loc Cert.MomentumIdeal.main_v0_2)),
      θ_run (Cert.MomentumIdeal.defs (F := Ideal)) (onTc (τ := Cert.MomentumIdeal.τ) (Cert.MomentumIdeal.main (F := Ideal))) ⟨m, fun _ => 0, g⟩ (fun r => ∀ c : Dev Cert.MomentumIdeal.nD,
          r.2.mem ((c.tc : Thread Cert.MomentumIdeal.nD Cert.MomentumIdeal.τ).loc Cert.MomentumIdeal.main_v0_0) = v0 c
          ∧ r.2.mem ((c.tc : Thread Cert.MomentumIdeal.nD Cert.MomentumIdeal.τ).loc Cert.MomentumIdeal.main_v0_1) = v1 c
          ∧ r.2.mem ((c.tc : Thread Cert.MomentumIdeal.nD Cert.MomentumIdeal.τ).loc Cert.MomentumIdeal.main_v0_2) = v2 c
          ∧ r.2.mem ((c.tc : Thread Cert.MomentumIdeal.nD Cert.MomentumIdeal.τ).loc Cert.MomentumIdeal.main_arg0) = m ((c.tc : Thread Cert.MomentumIdeal.nD Cert.MomentumIdeal.τ).loc Cert.MomentumIdeal.main_arg0)
          ∧ r.2.mem ((c.tc : Thread Cert.MomentumIdeal.nD Cert.MomentumIdeal.τ).loc Cert.MomentumIdeal.main_arg1) = m ((c.tc : Thread Cert.MomentumIdeal.nD Cert.MomentumIdeal.τ).loc Cert.MomentumIdeal.main_arg1)
          ∧ r.2.mem ((c.tc : Thread Cert.MomentumIdeal.nD Cert.MomentumIdeal.τ).loc Cert.MomentumIdeal.main_arg2) = m ((c.tc : Thread Cert.MomentumIdeal.nD Cert.MomentumIdeal.τ).loc Cert.MomentumIdeal.main_arg2))
      ∧ θ_run (Cert.MomentumRefIdeal.defs (F := Ideal)) (onTc (τ := Cert.MomentumRefIdeal.τ) (Cert.MomentumRefIdeal.main (F := Ideal))) ⟨m', fun _ => 0, g'⟩ (fun r => ∀ c : Dev Cert.MomentumRefIdeal.nD,
          r.2.mem ((c.tc : Thread Cert.MomentumRefIdeal.nD Cert.MomentumRefIdeal.τ).loc Cert.MomentumRefIdeal.main_v0_0) = v0 c
          ∧ r.2.mem ((c.tc : Thread Cert.MomentumRefIdeal.nD Cert.MomentumRefIdeal.τ).loc Cert.MomentumRefIdeal.main_v0_1) = v1 c
          ∧ r.2.mem ((c.tc : Thread Cert.MomentumRefIdeal.nD Cert.MomentumRefIdeal.τ).loc Cert.MomentumRefIdeal.main_v0_2) = v2 c
          ∧ r.2.mem ((c.tc : Thread Cert.MomentumRefIdeal.nD Cert.MomentumRefIdeal.τ).loc Cert.MomentumRefIdeal.main_arg0) = m' ((c.tc : Thread Cert.MomentumRefIdeal.nD Cert.MomentumRefIdeal.τ).loc Cert.MomentumRefIdeal.main_arg0)
          ∧ r.2.mem ((c.tc : Thread Cert.MomentumRefIdeal.nD Cert.MomentumRefIdeal.τ).loc Cert.MomentumRefIdeal.main_arg1) = m' ((c.tc : Thread Cert.MomentumRefIdeal.nD Cert.MomentumRefIdeal.τ).loc Cert.MomentumRefIdeal.main_arg1)
          ∧ r.2.mem ((c.tc : Thread Cert.MomentumRefIdeal.nD Cert.MomentumRefIdeal.τ).loc Cert.MomentumRefIdeal.main_arg2) = m' ((c.tc : Thread Cert.MomentumRefIdeal.nD Cert.MomentumRefIdeal.τ).loc Cert.MomentumRefIdeal.main_arg2))

def preserves_Apply_ApplyIdeal : Prop :=
  True

def algebraic_ApplyIdeal_ApplyRefIdeal [hApplyIdeal : Cert.ApplyIdeal.Facts] [hApplyRefIdeal : Cert.ApplyRefIdeal.Facts] : Prop :=
  ∀ (m : (ℓ : Loc Cert.ApplyIdeal.nD Cert.ApplyIdeal.τ Cert.ApplyIdeal.sig) → Buf (Elt Ideal) ℓ) (g : Dev Cert.ApplyIdeal.nD → PrngReg)
    (m' : (ℓ : Loc Cert.ApplyRefIdeal.nD Cert.ApplyRefIdeal.τ Cert.ApplyRefIdeal.sig) → Buf (Elt Ideal) ℓ) (g' : Dev Cert.ApplyRefIdeal.nD → PrngReg), Pre_ApplyIdeal m →
    (∀ c : Dev Cert.ApplyIdeal.nD,
      m' ((c.tc : Thread Cert.ApplyRefIdeal.nD Cert.ApplyRefIdeal.τ).loc Cert.ApplyRefIdeal.main_arg0) = m ((c.tc : Thread Cert.ApplyIdeal.nD Cert.ApplyIdeal.τ).loc Cert.ApplyIdeal.main_arg0)
      ∧ m' ((c.tc : Thread Cert.ApplyRefIdeal.nD Cert.ApplyRefIdeal.τ).loc Cert.ApplyRefIdeal.main_arg1) = m ((c.tc : Thread Cert.ApplyIdeal.nD Cert.ApplyIdeal.τ).loc Cert.ApplyIdeal.main_arg1)) →
    ∃ (v0 : (c : Dev Cert.ApplyIdeal.nD) → Buf (Elt Ideal) ((c.tc : Thread Cert.ApplyIdeal.nD Cert.ApplyIdeal.τ).loc Cert.ApplyIdeal.main_v0)),
      θ_run (Cert.ApplyIdeal.defs (F := Ideal)) (onTc (τ := Cert.ApplyIdeal.τ) (Cert.ApplyIdeal.main (F := Ideal))) ⟨m, fun _ => 0, g⟩ (fun r => ∀ c : Dev Cert.ApplyIdeal.nD,
          r.2.mem ((c.tc : Thread Cert.ApplyIdeal.nD Cert.ApplyIdeal.τ).loc Cert.ApplyIdeal.main_v0) = v0 c
          ∧ r.2.mem ((c.tc : Thread Cert.ApplyIdeal.nD Cert.ApplyIdeal.τ).loc Cert.ApplyIdeal.main_arg0) = m ((c.tc : Thread Cert.ApplyIdeal.nD Cert.ApplyIdeal.τ).loc Cert.ApplyIdeal.main_arg0)
          ∧ r.2.mem ((c.tc : Thread Cert.ApplyIdeal.nD Cert.ApplyIdeal.τ).loc Cert.ApplyIdeal.main_arg1) = m ((c.tc : Thread Cert.ApplyIdeal.nD Cert.ApplyIdeal.τ).loc Cert.ApplyIdeal.main_arg1))
      ∧ θ_run (Cert.ApplyRefIdeal.defs (F := Ideal)) (onTc (τ := Cert.ApplyRefIdeal.τ) (Cert.ApplyRefIdeal.main (F := Ideal))) ⟨m', fun _ => 0, g'⟩ (fun r => ∀ c : Dev Cert.ApplyRefIdeal.nD,
          r.2.mem ((c.tc : Thread Cert.ApplyRefIdeal.nD Cert.ApplyRefIdeal.τ).loc Cert.ApplyRefIdeal.main_v5) = v0 c
          ∧ r.2.mem ((c.tc : Thread Cert.ApplyRefIdeal.nD Cert.ApplyRefIdeal.τ).loc Cert.ApplyRefIdeal.main_arg0) = m' ((c.tc : Thread Cert.ApplyRefIdeal.nD Cert.ApplyRefIdeal.τ).loc Cert.ApplyRefIdeal.main_arg0)
          ∧ r.2.mem ((c.tc : Thread Cert.ApplyRefIdeal.nD Cert.ApplyRefIdeal.τ).loc Cert.ApplyRefIdeal.main_arg1) = m' ((c.tc : Thread Cert.ApplyRefIdeal.nD Cert.ApplyRefIdeal.τ).loc Cert.ApplyRefIdeal.main_arg1))

def preserves_XZero_XZeroIdeal : Prop :=
  True

def algebraic_XZeroIdeal_XZeroRefIdeal [hXZeroIdeal : Cert.XZeroIdeal.Facts] [hXZeroRefIdeal : Cert.XZeroRefIdeal.Facts] : Prop :=
  ∀ (m : (ℓ : Loc Cert.XZeroIdeal.nD Cert.XZeroIdeal.τ Cert.XZeroIdeal.sig) → Buf (Elt Ideal) ℓ) (g : Dev Cert.XZeroIdeal.nD → PrngReg)
    (m' : (ℓ : Loc Cert.XZeroRefIdeal.nD Cert.XZeroRefIdeal.τ Cert.XZeroRefIdeal.sig) → Buf (Elt Ideal) ℓ) (g' : Dev Cert.XZeroRefIdeal.nD → PrngReg), Pre_XZeroIdeal m →
    (∀ c : Dev Cert.XZeroIdeal.nD,
      m' ((c.tc : Thread Cert.XZeroRefIdeal.nD Cert.XZeroRefIdeal.τ).loc Cert.XZeroRefIdeal.main_arg0) = m ((c.tc : Thread Cert.XZeroIdeal.nD Cert.XZeroIdeal.τ).loc Cert.XZeroIdeal.main_arg0)
      ∧ m' ((c.tc : Thread Cert.XZeroRefIdeal.nD Cert.XZeroRefIdeal.τ).loc Cert.XZeroRefIdeal.main_arg1) = m ((c.tc : Thread Cert.XZeroIdeal.nD Cert.XZeroIdeal.τ).loc Cert.XZeroIdeal.main_arg1)
      ∧ m' ((c.tc : Thread Cert.XZeroRefIdeal.nD Cert.XZeroRefIdeal.τ).loc Cert.XZeroRefIdeal.main_arg2) = m ((c.tc : Thread Cert.XZeroIdeal.nD Cert.XZeroIdeal.τ).loc Cert.XZeroIdeal.main_arg2)
      ∧ m' ((c.tc : Thread Cert.XZeroRefIdeal.nD Cert.XZeroRefIdeal.τ).loc Cert.XZeroRefIdeal.main_arg3) = m ((c.tc : Thread Cert.XZeroIdeal.nD Cert.XZeroIdeal.τ).loc Cert.XZeroIdeal.main_arg3)) →
    ∃ (v0 : (c : Dev Cert.XZeroIdeal.nD) → Buf (Elt Ideal) ((c.tc : Thread Cert.XZeroIdeal.nD Cert.XZeroIdeal.τ).loc Cert.XZeroIdeal.main_v0)),
      θ_run (Cert.XZeroIdeal.defs (F := Ideal)) (onTc (τ := Cert.XZeroIdeal.τ) (Cert.XZeroIdeal.main (F := Ideal))) ⟨m, fun _ => 0, g⟩ (fun r => ∀ c : Dev Cert.XZeroIdeal.nD,
          r.2.mem ((c.tc : Thread Cert.XZeroIdeal.nD Cert.XZeroIdeal.τ).loc Cert.XZeroIdeal.main_v0) = v0 c
          ∧ r.2.mem ((c.tc : Thread Cert.XZeroIdeal.nD Cert.XZeroIdeal.τ).loc Cert.XZeroIdeal.main_arg0) = m ((c.tc : Thread Cert.XZeroIdeal.nD Cert.XZeroIdeal.τ).loc Cert.XZeroIdeal.main_arg0)
          ∧ r.2.mem ((c.tc : Thread Cert.XZeroIdeal.nD Cert.XZeroIdeal.τ).loc Cert.XZeroIdeal.main_arg1) = m ((c.tc : Thread Cert.XZeroIdeal.nD Cert.XZeroIdeal.τ).loc Cert.XZeroIdeal.main_arg1)
          ∧ r.2.mem ((c.tc : Thread Cert.XZeroIdeal.nD Cert.XZeroIdeal.τ).loc Cert.XZeroIdeal.main_arg2) = m ((c.tc : Thread Cert.XZeroIdeal.nD Cert.XZeroIdeal.τ).loc Cert.XZeroIdeal.main_arg2)
          ∧ r.2.mem ((c.tc : Thread Cert.XZeroIdeal.nD Cert.XZeroIdeal.τ).loc Cert.XZeroIdeal.main_arg3) = m ((c.tc : Thread Cert.XZeroIdeal.nD Cert.XZeroIdeal.τ).loc Cert.XZeroIdeal.main_arg3))
      ∧ θ_run (Cert.XZeroRefIdeal.defs (F := Ideal)) (onTc (τ := Cert.XZeroRefIdeal.τ) (Cert.XZeroRefIdeal.main (F := Ideal))) ⟨m', fun _ => 0, g'⟩ (fun r => ∀ c : Dev Cert.XZeroRefIdeal.nD,
          r.2.mem ((c.tc : Thread Cert.XZeroRefIdeal.nD Cert.XZeroRefIdeal.τ).loc Cert.XZeroRefIdeal.main_v0) = v0 c
          ∧ r.2.mem ((c.tc : Thread Cert.XZeroRefIdeal.nD Cert.XZeroRefIdeal.τ).loc Cert.XZeroRefIdeal.main_arg0) = m' ((c.tc : Thread Cert.XZeroRefIdeal.nD Cert.XZeroRefIdeal.τ).loc Cert.XZeroRefIdeal.main_arg0)
          ∧ r.2.mem ((c.tc : Thread Cert.XZeroRefIdeal.nD Cert.XZeroRefIdeal.τ).loc Cert.XZeroRefIdeal.main_arg1) = m' ((c.tc : Thread Cert.XZeroRefIdeal.nD Cert.XZeroRefIdeal.τ).loc Cert.XZeroRefIdeal.main_arg1)
          ∧ r.2.mem ((c.tc : Thread Cert.XZeroRefIdeal.nD Cert.XZeroRefIdeal.τ).loc Cert.XZeroRefIdeal.main_arg2) = m' ((c.tc : Thread Cert.XZeroRefIdeal.nD Cert.XZeroRefIdeal.τ).loc Cert.XZeroRefIdeal.main_arg2)
          ∧ r.2.mem ((c.tc : Thread Cert.XZeroRefIdeal.nD Cert.XZeroRefIdeal.τ).loc Cert.XZeroRefIdeal.main_arg3) = m' ((c.tc : Thread Cert.XZeroRefIdeal.nD Cert.XZeroRefIdeal.τ).loc Cert.XZeroRefIdeal.main_arg3))

def preserves_Gram_GramIdeal : Prop :=
  True

def algebraic_GramIdeal_GramRefIdeal [hGramIdeal : Cert.GramIdeal.Facts] [hGramRefIdeal : Cert.GramRefIdeal.Facts] : Prop :=
  ∀ (m : (ℓ : Loc Cert.GramIdeal.nD Cert.GramIdeal.τ Cert.GramIdeal.sig) → Buf (Elt Ideal) ℓ) (g : Dev Cert.GramIdeal.nD → PrngReg)
    (m' : (ℓ : Loc Cert.GramRefIdeal.nD Cert.GramRefIdeal.τ Cert.GramRefIdeal.sig) → Buf (Elt Ideal) ℓ) (g' : Dev Cert.GramRefIdeal.nD → PrngReg), Pre_GramIdeal m →
    (∀ c : Dev Cert.GramIdeal.nD,
      m' ((c.tc : Thread Cert.GramRefIdeal.nD Cert.GramRefIdeal.τ).loc Cert.GramRefIdeal.main_arg0) = m ((c.tc : Thread Cert.GramIdeal.nD Cert.GramIdeal.τ).loc Cert.GramIdeal.main_arg0)) →
    ∃ (v0 : (c : Dev Cert.GramIdeal.nD) → Buf (Elt Ideal) ((c.tc : Thread Cert.GramIdeal.nD Cert.GramIdeal.τ).loc Cert.GramIdeal.main_v0_0)) (v1 : (c : Dev Cert.GramIdeal.nD) → Buf (Elt Ideal) ((c.tc : Thread Cert.GramIdeal.nD Cert.GramIdeal.τ).loc Cert.GramIdeal.main_v0_1)),
      θ_run (Cert.GramIdeal.defs (F := Ideal)) (onTc (τ := Cert.GramIdeal.τ) (Cert.GramIdeal.main (F := Ideal))) ⟨m, fun _ => 0, g⟩ (fun r => ∀ c : Dev Cert.GramIdeal.nD,
          r.2.mem ((c.tc : Thread Cert.GramIdeal.nD Cert.GramIdeal.τ).loc Cert.GramIdeal.main_v0_0) = v0 c
          ∧ r.2.mem ((c.tc : Thread Cert.GramIdeal.nD Cert.GramIdeal.τ).loc Cert.GramIdeal.main_v0_1) = v1 c
          ∧ r.2.mem ((c.tc : Thread Cert.GramIdeal.nD Cert.GramIdeal.τ).loc Cert.GramIdeal.main_arg0) = m ((c.tc : Thread Cert.GramIdeal.nD Cert.GramIdeal.τ).loc Cert.GramIdeal.main_arg0))
      ∧ θ_run (Cert.GramRefIdeal.defs (F := Ideal)) (onTc (τ := Cert.GramRefIdeal.τ) (Cert.GramRefIdeal.main (F := Ideal))) ⟨m', fun _ => 0, g'⟩ (fun r => ∀ c : Dev Cert.GramRefIdeal.nD,
          r.2.mem ((c.tc : Thread Cert.GramRefIdeal.nD Cert.GramRefIdeal.τ).loc Cert.GramRefIdeal.main_v1) = v0 c
          ∧ r.2.mem ((c.tc : Thread Cert.GramRefIdeal.nD Cert.GramRefIdeal.τ).loc Cert.GramRefIdeal.main_v9) = v1 c
          ∧ r.2.mem ((c.tc : Thread Cert.GramRefIdeal.nD Cert.GramRefIdeal.τ).loc Cert.GramRefIdeal.main_arg0) = m' ((c.tc : Thread Cert.GramRefIdeal.nD Cert.GramRefIdeal.τ).loc Cert.GramRefIdeal.main_arg0))

def Claim : Prop :=
  ∃ (hFinal : Cert.Final.Facts) (hFinalIdeal : Cert.FinalIdeal.Facts) (hFinalRefIdeal : Cert.FinalRefIdeal.Facts) (hMomentum : Cert.Momentum.Facts) (hMomentumIdeal : Cert.MomentumIdeal.Facts) (hMomentumRefIdeal : Cert.MomentumRefIdeal.Facts) (hApply : Cert.Apply.Facts) (hApplyIdeal : Cert.ApplyIdeal.Facts) (hApplyRefIdeal : Cert.ApplyRefIdeal.Facts) (hXZero : Cert.XZero.Facts) (hXZeroIdeal : Cert.XZeroIdeal.Facts) (hXZeroRefIdeal : Cert.XZeroRefIdeal.Facts) (hGram : Cert.Gram.Facts) (hGramIdeal : Cert.GramIdeal.Facts) (hGramRefIdeal : Cert.GramRefIdeal.Facts),
    quiescent_Final (hFinal := hFinal)
    ∧ quiescent_FinalIdeal (hFinalIdeal := hFinalIdeal)
    ∧ quiescent_FinalRefIdeal (hFinalRefIdeal := hFinalRefIdeal)
    ∧ quiescent_Momentum (hMomentum := hMomentum)
    ∧ quiescent_MomentumIdeal (hMomentumIdeal := hMomentumIdeal)
    ∧ quiescent_MomentumRefIdeal (hMomentumRefIdeal := hMomentumRefIdeal)
    ∧ quiescent_Apply (hApply := hApply)
    ∧ quiescent_ApplyIdeal (hApplyIdeal := hApplyIdeal)
    ∧ quiescent_ApplyRefIdeal (hApplyRefIdeal := hApplyRefIdeal)
    ∧ quiescent_XZero (hXZero := hXZero)
    ∧ quiescent_XZeroIdeal (hXZeroIdeal := hXZeroIdeal)
    ∧ quiescent_XZeroRefIdeal (hXZeroRefIdeal := hXZeroRefIdeal)
    ∧ quiescent_Gram (hGram := hGram)
    ∧ quiescent_GramIdeal (hGramIdeal := hGramIdeal)
    ∧ quiescent_GramRefIdeal (hGramRefIdeal := hGramRefIdeal)
    ∧ preserves_Final_FinalIdeal
    ∧ algebraic_FinalIdeal_FinalRefIdeal (hFinalIdeal := hFinalIdeal) (hFinalRefIdeal := hFinalRefIdeal)
    ∧ preserves_Momentum_MomentumIdeal
    ∧ algebraic_MomentumIdeal_MomentumRefIdeal (hMomentumIdeal := hMomentumIdeal) (hMomentumRefIdeal := hMomentumRefIdeal)
    ∧ preserves_Apply_ApplyIdeal
    ∧ algebraic_ApplyIdeal_ApplyRefIdeal (hApplyIdeal := hApplyIdeal) (hApplyRefIdeal := hApplyRefIdeal)
    ∧ preserves_XZero_XZeroIdeal
    ∧ algebraic_XZeroIdeal_XZeroRefIdeal (hXZeroIdeal := hXZeroIdeal) (hXZeroRefIdeal := hXZeroRefIdeal)
    ∧ preserves_Gram_GramIdeal
    ∧ algebraic_GramIdeal_GramRefIdeal (hGramIdeal := hGramIdeal) (hGramRefIdeal := hGramRefIdeal)
-- ==== Final.lean ====
abbrev S4x2048x2048 : Shape := ⟨3, ![4, 2048, 2048]⟩
abbrev S4x2048x7168 : Shape := ⟨3, ![4, 2048, 7168]⟩
abbrev S1x2048x2048 : Shape := ⟨3, ![1, 2048, 2048]⟩
abbrev S1x2048x512 : Shape := ⟨3, ![1, 2048, 512]⟩
abbrev S2048x2048 : Shape := ⟨2, ![2048, 2048]⟩
abbrev S2048x512 : Shape := ⟨2, ![2048, 512]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x7168, .bf16⟩
  | .hbm, ⟨2, _⟩ => ⟨S4x2048x7168, .bf16⟩
  | .hbm, ⟨3, _⟩ => ⟨S4x2048x7168, .bf16⟩
  | .hbm, ⟨4, _⟩ => ⟨S4x2048x7168, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 14], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FinalRefIdeal.lean ====
abbrev S4x2048x2048 : Shape := ⟨3, ![4, 2048, 2048]⟩
abbrev S4x2048x7168 : Shape := ⟨3, ![4, 2048, 7168]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x7168, .bf16⟩
  | .hbm, ⟨2, _⟩ => ⟨S4x2048x7168, .bf16⟩
  | .hbm, ⟨3, _⟩ => ⟨S4x2048x7168, .f32⟩
  | .hbm, ⟨4, _⟩ => ⟨S4x2048x7168, .f32⟩
  | .hbm, ⟨5, _⟩ => ⟨S_, .f32⟩
  | .hbm, ⟨6, _⟩ => ⟨S4x2048x7168, .f32⟩
  | .hbm, ⟨7, _⟩ => ⟨S4x2048x7168, .f32⟩
  | .hbm, ⟨8, _⟩ => ⟨S4x2048x7168, .f32⟩
  | .hbm, ⟨9, _⟩ => ⟨S4x2048x7168, .bf16⟩
  | .hbm, ⟨10, _⟩ => ⟨S4x2048x7168, .f32⟩
  | .hbm, ⟨11, _⟩ => ⟨S_, .f32⟩
  | .hbm, ⟨12, _⟩ => ⟨S4x2048x7168, .f32⟩
  | .hbm, ⟨13, _⟩ => ⟨S4x2048x7168, .f32⟩
  | .hbm, ⟨14, _⟩ => ⟨S4x2048x7168, .f32⟩
  | .hbm, ⟨15, _⟩ => ⟨S_, .f32⟩
  | .hbm, ⟨16, _⟩ => ⟨S4x2048x7168, .f32⟩
  | .hbm, ⟨17, _⟩ => ⟨S4x2048x7168, .f32⟩
  | .hbm, ⟨18, _⟩ => ⟨S4x2048x7168, .f32⟩
  | .hbm, ⟨19, _⟩ => ⟨S4x2048x7168, .bf16⟩
  | .hbm, ⟨20, _⟩ => ⟨S4x2048x7168, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Momentum.lean ====
abbrev S4x2048x7168 : Shape := ⟨3, ![4, 2048, 7168]⟩
abbrev S4x16x56 : Shape := ⟨3, ![4, 16, 56]⟩
abbrev S4x16x1x56 : Shape := ⟨4, ![4, 16, 1, 56]⟩
abbrev S4x16x8x128 : Shape := ⟨4, ![4, 16, 8, 128]⟩
abbrev S1x128x7168 : Shape := ⟨3, ![1, 128, 7168]⟩
abbrev S1x1x1x56 : Shape := ⟨4, ![1, 1, 1, 56]⟩
abbrev S1x1x8x128 : Shape := ⟨4, ![1, 1, 8, 128]⟩
abbrev S128x7168 : Shape := ⟨2, ![128, 7168]⟩
abbrev S1x56 : Shape := ⟨2, ![1, 56]⟩
abbrev S8x128 : Shape := ⟨2, ![8, 128]⟩
abbrev S1x1x1 : Shape := ⟨3, ![1, 1, 1]⟩
abbrev S1x128x128 : Shape := ⟨3, ![1, 128, 128]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S16x8x128 : Shape := ⟨3, ![16, 8, 128]⟩

abbrev nBuf : Space → Nat
  | .hbm => 6
  | .vmem => 11
  | .smem => 1
  | _ => 0

abbrev bufTy : (tb : Table) → Fin (tcTables nBuf tb) → BufTy
  | .hbm, ⟨0, _⟩ => ⟨S4x2048x7168, .bf16⟩
  | .hbm, ⟨1, _⟩ => ⟨S4x2048x7168, .i8⟩
  | .hbm, ⟨2, _⟩ => ⟨S4x16x56, .f32⟩
  | .hbm, ⟨3, _⟩ => ⟨S4x2048x7168, .i8⟩
  | .hbm, ⟨4, _⟩ => ⟨S4x16x1x56, .f32⟩
  | .hbm, ⟨5, _⟩ => ⟨S4x16x8x128, .f32⟩
  | .local _ .vmem, ⟨0, _⟩ => ⟨S1x128x7168, .bf16⟩
  | .local _ .vmem, ⟨1, _⟩ => ⟨S1x128x7168, .bf16⟩
  | .local _ .vmem, ⟨2, _⟩ => ⟨S1x128x7168, .i8⟩
  | .local _ .vmem, ⟨3, _⟩ => ⟨S1x128x7168, .i8⟩
  | .local _ .vmem, ⟨4, _⟩ => ⟨S1x128x7168, .i8⟩
  | .local _ .vmem, ⟨5, _⟩ => ⟨S1x128x7168, .i8⟩
  | .local _ .vmem, ⟨6, _⟩ => ⟨S1x1x1x56, .f32⟩
  | .local _ .vmem, ⟨7, _⟩ => ⟨S1x1x1x56, .f32⟩
  | .local _ .vmem, ⟨8, _⟩ => ⟨S1x1x8x128, .f32⟩
  | .local _ .vmem, ⟨9, _⟩ => ⟨S1x1x8x128, .f32⟩
  | .local _ .vmem, ⟨10, _⟩ => ⟨S128x7168, .f32⟩
  | .local _ .smem, ⟨0, _⟩ => ⟨S4x16x56, .f32⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  let c0 : Index := 0#32
  ![v3.toNat, v4.toNat, 0]
def k0_off2 (i : grid0.Coords) : Fin 3 → Nat :=
  let arg0 : BitVec 32 := BitVec.ofNat 32 (i 0).val
  let v36 : Index := Scalar.indexCast arg0
  let arg1 : BitVec 32 := BitVec.ofNat 32 (i 1).val
  let v37 : Index := Scalar.indexCast arg1
  let c1 : Index := 1#32
  ![v36.toNat, v37.toNat, 1]
def k0_off3 (i : grid0.Coords) : Fin 3 → Nat :=
  let arg0 : BitVec 32 := BitVec.ofNat 32 (i 0).val
  let v69 : Index := Scalar.indexCast arg0
  let arg1 : BitVec 32 := BitVec.ofNat 32 (i 1).val
  let v70 : Index := Scalar.indexCast arg1
  let c2 : Index := 2#32
  ![v69.toNat, v70.toNat, 2]
def k0_off4 (i : grid0.Coords) : Fin 3 → Nat :=
  let arg0 : BitVec 32 := BitVec.ofNat 32 (i 0).val
  let v102 : Index := Scalar.indexCast arg0
  let arg1 : BitVec 32 := BitVec.ofNat 32 (i 1).val
  let v103 : Index := Scalar.indexCast arg1
  let c3 : Index := 3#32
  ![v102.toNat, v103.toNat, 3]
def k0_off5 (i : grid0.Coords) : Fin 3 → Nat :=
  let arg0 : BitVec 32 := BitVec.ofNat 32 (i 0).val
  let v135 : Index := Scalar.indexCast arg0
  let arg1 : BitVec 32 := BitVec.ofNat 32 (i 1).val
  let v136 : Index := Scalar.indexCast arg1
  let c4 : Index := 4#32
  ![v135.toNat, v136.toNat, 4]
def k0_off6 (i : grid0.Coords) : Fin 3 → Nat :=
  let arg0 : BitVec 32 := BitVec.ofNat 32 (i 0).val
  let v168 : Index := Scalar.indexCast arg0
  let arg1 : BitVec 32 := BitVec.ofNat 32 (i 1).val
  let v169 : Index := Scalar.indexCast arg1
  let c5 : Index := 5#32
  ![v168.toNat, v169.toNat, 5]
def k0_off7 (i : grid0.Coords) : Fin 3 → Nat :=
  let arg0 : BitVec 32 := BitVec.ofNat 32 (i 0).val
  let v201 : Index := Scalar.indexCast arg0
  let arg1 : BitVec 32 := BitVec.ofNat 32 (i 1).val
  let v202 : Index := Scalar.indexCast arg1
  let c6 : Index := 6#32
  ![v201.toNat, v202.toNat, 6]
def k0_off8 (i : grid0.Coords) : Fin 3 → Nat :=
  let arg0 : BitVec 32 := BitVec.ofNat 32 (i 0).val
  let v234 : Index := Scalar.indexCast arg0
  let arg1 : BitVec 32 := BitVec.ofNat 32 (i 1).val
  let v235 : Index := Scalar.indexCast arg1
  let c7 : Index := 7#32
  ![v234.toNat, v235.toNat, 7]
def k0_off9 (i : grid0.Coords) : Fin 3 → Nat :=
  let arg0 : BitVec 32 := BitVec.ofNat 32 (i 0).val
  let v267 : Index := Scalar.indexCast arg0
  let arg1 : BitVec 32 := BitVec.ofNat 32 (i 1).val
  let v268 : Index := Scalar.indexCast arg1
  let c8 : Index := 8#32
  ![v267.toNat, v268.toNat, 8]
def k0_off10 (i : grid0.Coords) : Fin 3 → Nat :=
  let arg0 : BitVec 32 := BitVec.ofNat 32 (i 0).val
  let v300 : Index := Scalar.indexCast arg0
  let arg1 : BitVec 32 := BitVec.ofNat 32 (i 1).val
  let v301 : Index := Scalar.indexCast arg1
  let c9 : Index := 9#32
  ![v300.toNat, v301.toNat, 9]
def k0_off11 (i : grid0.Coords) : Fin 3 → Nat :=
  let arg0 : BitVec 32 := BitVec.ofNat 32 (i 0).val
  let v333 : Index := Scalar.indexCast arg0
  let arg1 : BitVec 32 := BitVec.ofNat 32 (i 1).val
  let v334 : Index := Scalar.indexCast arg1
  let c10 : Index := 10#32
  ![v333.toNat, v334.toNat, 10]
def k0_off12 (i : grid0.Coords) : Fin 3 → Nat :=
  let arg0 : BitVec 32 := BitVec.ofNat 32 (i 0).val
  let v366 : Index := Scalar.indexCast arg0
  let arg1 : BitVec 32 := BitVec.ofNat 32 (i 1).val
  let v367 : Index := Scalar.indexCast arg1
  let c11 : Index := 11#32
  ![v366.toNat, v367.toNat, 11]
def k0_off13 (i : grid0.Coords) : Fin 3 → Nat :=
  let arg0 : BitVec 32 := BitVec.ofNat 32 (i 0).val
  let v399 : Index := Scalar.indexCast arg0
  let arg1 : BitVec 32 := BitVec.ofNat 32 (i 1).val
  let v400 : Index := Scalar.indexCast arg1
  let c12 : Index := 12#32
  ![v399.toNat, v400.toNat, 12]
def k0_off14 (i : grid0.Coords) : Fin 3 → Nat :=
  let arg0 : BitVec 32 := BitVec.ofNat 32 (i 0).val
  let v432 : Index := Scalar.indexCast arg0
  let arg1 : BitVec 32 := BitVec.ofNat 32 (i 1).val
  let v433 : Index := Scalar.indexCast arg1
  let c13 : Index := 13#32
  ![v432.toNat, v433.toNat, 13]
def k0_off15 (i : grid0.Coords) : Fin 3 → Nat :=
  let arg0 : BitVec 32 := BitVec.ofNat 32 (i 0).val
  let v465 : Index := Scalar.indexCast arg0
  let arg1 : BitVec 32 := BitVec.ofNat 32 (i 1).val
  let v466 : Index := Scalar.indexCast arg1
  let c14 : Index := 14#32
  ![v465.toNat, v466.toNat, 14]
def k0_off16 (i : grid0.Coords) : Fin 3 → Nat :=
  let arg0 : BitVec 32 := BitVec.ofNat 32 (i 0).val
  let v498 : Index := Scalar.indexCast arg0
  let arg1 : BitVec 32 := BitVec.ofNat 32 (i 1).val
  let v499 : Index := Scalar.indexCast arg1
  let c15 : Index := 15#32
  ![v498.toNat, v499.toNat, 15]
def k0_off17 (i : grid0.Coords) : Fin 3 → Nat :=
  let arg0 : BitVec 32 := BitVec.ofNat 32 (i 0).val
  let v531 : Index := Scalar.indexCast arg0
  let arg1 : BitVec 32 := BitVec.ofNat 32 (i 1).val
  let v532 : Index := Scalar.indexCast arg1
  let c16 : Index := 16#32
  ![v531.toNat, v532.toNat, 16]
def k0_off18 (i : grid0.Coords) : Fin 3 → Nat :=
  let arg0 : BitVec 32 := BitVec.ofNat 32 (i 0).val
  let v564 : Index := Scalar.indexCast arg0
  let arg1 : BitVec 32 := BitVec.ofNat 32 (i 1).val
  let v565 : Index := Scalar.indexCast arg1
  let c17 : Index := 17#32
  ![v564.toNat, v565.toNat, 17]
def k0_off19 (i : grid0.Coords) : Fin 3 → Nat :=
  let arg0 : BitVec 32 := BitVec.ofNat 32 (i 0).val
  let v597 : Index := Scalar.indexCast arg0
  let arg1 : BitVec 32 := BitVec.ofNat 32 (i 1).val
  let v598 : Index := Scalar.indexCast arg1
  let c18 : Index := 18#32
  ![v597.toNat, v598.toNat, 18]
def k0_off20 (i : grid0.Coords) : Fin 3 → Nat :=
  let arg0 : BitVec 32 := BitVec.ofNat 32 (i 0).val
  let v630 : Index := Scalar.indexCast arg0
  let arg1 : BitVec 32 := BitVec.ofNat 32 (i 1).val
  let v631 : Index := Scalar.indexCast arg1
  let c19 : Index := 19#32
  ![v630.toNat, v631.toNat, 19]
def k0_off21 (i : grid0.Coords) : Fin 3 → Nat :=
  let arg0 : BitVec 32 := BitVec.ofNat 32 (i 0).val
  let v663 : Index := Scalar.indexCast arg0
  let arg1 : BitVec 32 := BitVec.ofNat 32 (i 1).val
  let v664 : Index := Scalar.indexCast arg1
  let c20 : Index := 20#32
  ![v663.toNat, v664.toNat, 20]
def k0_off22 (i : grid0.Coords) : Fin 3 → Nat :=
  let arg0 : BitVec 32 := BitVec.ofNat 32 (i 0).val
  let v696 : Index := Scalar.indexCast arg0
  let arg1 : BitVec 32 := BitVec.ofNat 32 (i 1).val
  let v697 : Index := Scalar.indexCast arg1
  let c21 : Index := 21#32
  ![v696.toNat, v697.toNat, 21]
def k0_off23 (i : grid0.Coords) : Fin 3 → Nat :=
  let arg0 : BitVec 32 := BitVec.ofNat 32 (i 0).val
  let v729 : Index := Scalar.indexCast arg0
  let arg1 : BitVec 32 := BitVec.ofNat 32 (i 1).val
  let v730 : Index := Scalar.indexCast arg1
  let c22 : Index := 22#32
  ![v729.toNat, v730.toNat, 22]
def k0_off24 (i : grid0.Coords) : Fin 3 → Nat :=
  let arg0 : BitVec 32 := BitVec.ofNat 32 (i 0).val
  let v762 : Index := Scalar.indexCast arg0
  let arg1 : BitVec 32 := BitVec.ofNat 32 (i 1).val
  let v763 : Index := Scalar.indexCast arg1
  let c23 : Index := 23#32
  ![v762.toNat, v763.toNat, 23]
def k0_off25 (i : grid0.Coords) : Fin 3 → Nat :=
  let arg0 : BitVec 32 := BitVec.ofNat 32 (i 0).val
  let v795 : Index := Scalar.indexCast arg0
  let arg1 : BitVec 32 := BitVec.ofNat 32 (i 1).val
  let v796 : Index := Scalar.indexCast arg1
  let c24 : Index := 24#32
  ![v795.toNat, v796.toNat, 24]
def k0_off26 (i : grid0.Coords) : Fin 3 → Nat :=
  let arg0 : BitVec 32 := BitVec.ofNat 32 (i 0).val
  let v828 : Index := Scalar.indexCast arg0
  let arg1 : BitVec 32 := BitVec.ofNat 32 (i 1).val
  let v829 : Index := Scalar.indexCast arg1
  let c25 : Index := 25#32
  ![v828.toNat, v829.toNat, 25]
def k0_off27 (i : grid0.Coords) : Fin 3 → Nat :=
  let arg0 : BitVec 32 := BitVec.ofNat 32 (i 0).val
  let v861 : Index := Scalar.indexCast arg0
  let arg1 : BitVec 32 := BitVec.ofNat 32 (i 1).val
  let v862 : Index := Scalar.indexCast arg1
  let c26 : Index := 26#32
  ![v861.toNat, v862.toNat, 26]
def k0_off28 (i : grid0.Coords) : Fin 3 → Nat :=
  let arg0 : BitVec 32 := BitVec.ofNat 32 (i 0).val
  let v894 : Index := Scalar.indexCast arg0
  let arg1 : BitVec 32 := BitVec.ofNat 32 (i 1).val
  let v895 : Index := Scalar.indexCast arg1
  let c27 : Index := 27#32
  ![v894.toNat, v895.toNat, 27]
def k0_off29 (i : grid0.Coords) : Fin 3 → Nat :=
  let arg0 : BitVec 32 := BitVec.ofNat 32 (i 0).val
  let v927 : Index := Scalar.indexCast arg0
  let arg1 : BitVec 32 := BitVec.ofNat 32 (i 1).val
  let v928 : Index := Scalar.indexCast arg1
  let c28 : Index := 28#32
  ![v927.toNat, v928.toNat, 28]
def k0_off30 (i : grid0.Coords) : Fin 3 → Nat :=
  let arg0 : BitVec 32 := BitVec.ofNat 32 (i 0).val
  let v960 : Index := Scalar.indexCast arg0
  let arg1 : BitVec 32 := BitVec.ofNat 32 (i 1).val
  let v961 : Index := Scalar.indexCast arg1
  let c29 : Index := 29#32
  ![v960.toNat, v961.toNat, 29]
def k0_off31 (i : grid0.Coords) : Fin 3 → Nat :=
  let arg0 : BitVec 32 := BitVec.ofNat 32 (i 0).val
  let v993 : Index := Scalar.indexCast arg0
  let arg1 : BitVec 32 := BitVec.ofNat 32 (i 1).val
  let v994 : Index := Scalar.indexCast arg1
  let c30 : Index := 30#32
  ![v993.toNat, v994.toNat, 30]
def k0_off32 (i : grid0.Coords) : Fin 3 → Nat :=
  let arg0 : BitVec 32 := BitVec.ofNat 32 (i 0).val
  let v1026 : Index := Scalar.indexCast arg0
  let arg1 : BitVec 32 := BitVec.ofNat 32 (i 1).val
  let v1027 : Index := Scalar.indexCast arg1
  let c31 : Index := 31#32
  ![v1026.toNat, v1027.toNat, 31]
def k0_off33 (i : grid0.Coords) : Fin 3 → Nat :=
  let arg0 : BitVec 32 := BitVec.ofNat 32 (i 0).val
  let v1059 : Index := Scalar.indexCast arg0
  let arg1 : BitVec 32 := BitVec.ofNat 32 (i 1).val
  let v1060 : Index := Scalar.indexCast arg1
  let c32 : Index := 32#32
  ![v1059.toNat, v1060.toNat, 32]
def k0_off34 (i : grid0.Coords) : Fin 3 → Nat :=
  let arg0 : BitVec 32 := BitVec.ofNat 32 (i 0).val
  let v1092 : Index := Scalar.indexCast arg0
  let arg1 : BitVec 32 := BitVec.ofNat 32 (i 1).val
  let v1093 : Index := Scalar.indexCast arg1
  let c33 : Index := 33#32
  ![v1092.toNat, v1093.toNat, 33]
def k0_off35 (i : grid0.Coords) : Fin 3 → Nat :=
  let arg0 : BitVec 32 := BitVec.ofNat 32 (i 0).val
  let v1125 : Index := Scalar.indexCast arg0
  let arg1 : BitVec 32 := BitVec.ofNat 32 (i 1).val
  let v1126 : Index := Scalar.indexCast arg1
  let c34 : Index := 34#32
  ![v1125.toNat, v1126.toNat, 34]
def k0_off36 (i : grid0.Coords) : Fin 3 → Nat :=
  let arg0 : BitVec 32 := BitVec.ofNat 32 (i 0).val
  let v1158 : Index := Scalar.indexCast arg0
  let arg1 : BitVec 32 := BitVec.ofNat 32 (i 1).val
  let v1159 : Index := Scalar.indexCast arg1
  let c35 : Index := 35#32
  ![v1158.toNat, v1159.toNat, 35]
def k0_off37 (i : grid0.Coords) : Fin 3 → Nat :=
  let arg0 : BitVec 32 := BitVec.ofNat 32 (i 0).val
  let v1191 : Index := Scalar.indexCast arg0
  let arg1 : BitVec 32 := BitVec.ofNat 32 (i 1).val
  let v1192 : Index := Scalar.indexCast arg1
  let c36 : Index := 36#32
  ![v1191.toNat, v1192.toNat, 36]
def k0_off38 (i : grid0.Coords) : Fin 3 → Nat :=
  let arg0 : BitVec 32 := BitVec.ofNat 32 (i 0).val
  let v1224 : Index := Scalar.indexCast arg0
  let arg1 : BitVec 32 := BitVec.ofNat 32 (i 1).val
  let v1225 : Index := Scalar.indexCast arg1
  let c37 : Index := 37#32
  ![v1224.toNat, v1225.toNat, 37]
def k0_off39 (i : grid0.Coords) : Fin 3 → Nat :=
  let arg0 : BitVec 32 := BitVec.ofNat 32 (i 0).val
  let v1257 : Index := Scalar.indexCast arg0
  let arg1 : BitVec 32 := BitVec.ofNat 32 (i 1).val
  let v1258 : Index := Scalar.indexCast arg1
  let c38 : Index := 38#32
  ![v1257.toNat, v1258.toNat, 38]
def k0_off40 (i : grid0.Coords) : Fin 3 → Nat :=
  let arg0 : BitVec 32 := BitVec.ofNat 32 (i 0).val
  let v1290 : Index := Scalar.indexCast arg0
  let arg1 : BitVec 32 := BitVec.ofNat 32 (i 1).val
  let v1291 : Index := Scalar.indexCast arg1
  let c39 : Index := 39#32
  ![v1290.toNat, v1291.toNat, 39]
def k0_off41 (i : grid0.Coords) : Fin 3 → Nat :=
  let arg0 : BitVec 32 := BitVec.ofNat 32 (i 0).val
  let v1323 : Index := Scalar.indexCast arg0
  let arg1 : BitVec 32 := BitVec.ofNat 32 (i 1).val
  let v1324 : Index := Scalar.indexCast arg1
  let c40 : Index := 40#32
  ![v1323.toNat, v1324.toNat, 40]
def k0_off42 (i : grid0.Coords) : Fin 3 → Nat :=
  let arg0 : BitVec 32 := BitVec.ofNat 32 (i 0).val
  let v1356 : Index := Scalar.indexCast arg0
  let arg1 : BitVec 32 := BitVec.ofNat 32 (i 1).val
  let v1357 : Index := Scalar.indexCast arg1
  let c41 : Index := 41#32
  ![v1356.toNat, v1357.toNat, 41]
def k0_off43 (i : grid0.Coords) : Fin 3 → Nat :=
  let arg0 : BitVec 32 := BitVec.ofNat 32 (i 0).val
  let v1389 : Index := Scalar.indexCast arg0
  let arg1 : BitVec 32 := BitVec.ofNat 32 (i 1).val
  let v1390 : Index := Scalar.indexCast arg1
  let c42 : Index := 42#32
  ![v1389.toNat, v1390.toNat, 42]
def k0_off44 (i : grid0.Coords) : Fin 3 → Nat :=
  let arg0 : BitVec 32 := BitVec.ofNat 32 (i 0).val
  let v1422 : Index := Scalar.indexCast arg0
  let arg1 : BitVec 32 := BitVec.ofNat 32 (i 1).val
  let v1423 : Index := Scalar.indexCast arg1
  let c43 : Index := 43#32
  ![v1422.toNat, v1423.toNat, 43]
def k0_off45 (i : grid0.Coords) : Fin 3 → Nat :=
  let arg0 : BitVec 32 := BitVec.ofNat 32 (i 0).val
  let v1455 : Index := Scalar.indexCast arg0
  let arg1 : BitVec 32 := BitVec.ofNat 32 (i 1).val
  let v1456 : Index := Scalar.indexCast arg1
  let c44 : Index := 44#32
  ![v1455.toNat, v1456.toNat, 44]
def k0_off46 (i : grid0.Coords) : Fin 3 → Nat :=
  let arg0 : BitVec 32 := BitVec.ofNat 32 (i 0).val
  let v1488 : Index := Scalar.indexCast arg0
  let arg1 : BitVec 32 := BitVec.ofNat 32 (i 1).val
  let v1489 : Index := Scalar.indexCast arg1
  let c45 : Index := 45#32
  ![v1488.toNat, v1489.toNat, 45]
def k0_off47 (i : grid0.Coords) : Fin 3 → Nat :=
  let arg0 : BitVec 32 := BitVec.ofNat 32 (i 0).val
  let v1521 : Index := Scalar.indexCast arg0
  let arg1 : BitVec 32 := BitVec.ofNat 32 (i 1).val
  let v1522 : Index := Scalar.indexCast arg1
  let c46 : Index := 46#32
  ![v1521.toNat, v1522.toNat, 46]
def k0_off48 (i : grid0.Coords) : Fin 3 → Nat :=
  let arg0 : BitVec 32 := BitVec.ofNat 32 (i 0).val
  let v1554 : Index := Scalar.indexCast arg0
  let arg1 : BitVec 32 := BitVec.ofNat 32 (i 1).val
  let v1555 : Index := Scalar.indexCast arg1
  let c47 : Index := 47#32
  ![v1554.toNat, v1555.toNat, 47]
def k0_off49 (i : grid0.Coords) : Fin 3 → Nat :=
  let arg0 : BitVec 32 := BitVec.ofNat 32 (i 0).val
  let v1587 : Index := Scalar.indexCast arg0
  let arg1 : BitVec 32 := BitVec.ofNat 32 (i 1).val
  let v1588 : Index := Scalar.indexCast arg1
  let c48 : Index := 48#32
  ![v1587.toNat, v1588.toNat, 48]
def k0_off50 (i : grid0.Coords) : Fin 3 → Nat :=
  let arg0 : BitVec 32 := BitVec.ofNat 32 (i 0).val
  let v1620 : Index := Scalar.indexCast arg0
  let arg1 : BitVec 32 := BitVec.ofNat 32 (i 1).val
  let v1621 : Index := Scalar.indexCast arg1
  let c49 : Index := 49#32
  ![v1620.toNat, v1621.toNat, 49]
def k0_off51 (i : grid0.Coords) : Fin 3 → Nat :=
  let arg0 : BitVec 32 := BitVec.ofNat 32 (i 0).val
  let v1653 : Index := Scalar.indexCast arg0
  let arg1 : BitVec 32 := BitVec.ofNat 32 (i 1).val
  let v1654 : Index := Scalar.indexCast arg1
  let c50 : Index := 50#32
  ![v1653.toNat, v1654.toNat, 50]
def k0_off52 (i : grid0.Coords) : Fin 3 → Nat :=
  let arg0 : BitVec 32 := BitVec.ofNat 32 (i 0).val
  let v1686 : Index := Scalar.indexCast arg0
  let arg1 : BitVec 32 := BitVec.ofNat 32 (i 1).val
  let v1687 : Index := Scalar.indexCast arg1
  let c51 : Index := 51#32
  ![v1686.toNat, v1687.toNat, 51]
def k0_off53 (i : grid0.Coords) : Fin 3 → Nat :=
  let arg0 : BitVec 32 := BitVec.ofNat 32 (i 0).val
  let v1719 : Index := Scalar.indexCast arg0
  let arg1 : BitVec 32 := BitVec.ofNat 32 (i 1).val
  let v1720 : Index := Scalar.indexCast arg1
  let c52 : Index := 52#32
  ![v1719.toNat, v1720.toNat, 52]
def k0_off54 (i : grid0.Coords) : Fin 3 → Nat :=
  let arg0 : BitVec 32 := BitVec.ofNat 32 (i 0).val
  let v1752 : Index := Scalar.indexCast arg0
  let arg1 : BitVec 32 := BitVec.ofNat 32 (i 1).val
  let v1753 : Index := Scalar.indexCast arg1
  let c53 : Index := 53#32
  ![v1752.toNat, v1753.toNat, 53]
def k0_off55 (i : grid0.Coords) : Fin 3 → Nat :=
  let arg0 : BitVec 32 := BitVec.ofNat 32 (i 0).val
  let v1785 : Index := Scalar.indexCast arg0
  let arg1 : BitVec 32 := BitVec.ofNat 32 (i 1).val
  let v1786 : Index := Scalar.indexCast arg1
  let c54 : Index := 54#32
  ![v1785.toNat, v1786.toNat, 54]
def k0_off56 (i : grid0.Coords) : Fin 3 → Nat :=
  let arg0 : BitVec 32 := BitVec.ofNat 32 (i 0).val
  let v1818 : Index := Scalar.indexCast arg0
  let arg1 : BitVec 32 := BitVec.ofNat 32 (i 1).val
  let v1819 : Index := Scalar.indexCast arg1
  let c55 : Index := 55#32
  ![v1818.toNat, v1819.toNat, 55]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S4x16x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x7168 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x7168 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x56 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MomentumRefIdeal.lean ====
abbrev S4x2048x7168 : Shape := ⟨3, ![4, 2048, 7168]⟩
abbrev S4x16x56 : Shape := ⟨3, ![4, 16, 56]⟩
abbrev S4x16x1x56 : Shape := ⟨4, ![4, 16, 1, 56]⟩
abbrev S4x16x8x128 : Shape := ⟨4, ![4, 16, 8, 128]⟩
abbrev S4x16x128x56x128 : Shape := ⟨5, ![4, 16, 128, 56, 128]⟩
abbrev S4x16x1x56x1 : Shape := ⟨5, ![4, 16, 1, 56, 1]⟩
abbrev S4x16x16x8x56x128 : Shape := ⟨6, ![4, 16, 16, 8, 56, 128]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x7168, .bf16⟩
  | .hbm, ⟨1, _⟩ => ⟨S4x2048x7168, .i8⟩
  | .hbm, ⟨2, _⟩ => ⟨S4x16x56, .f32⟩
  | .hbm, ⟨3, _⟩ => ⟨S4x2048x7168, .i8⟩
  | .hbm, ⟨4, _⟩ => ⟨S4x16x1x56, .f32⟩
  | .hbm, ⟨5, _⟩ => ⟨S4x16x8x128, .f32⟩
  | .local _ .vmem, ⟨0, _⟩ => ⟨S4x2048x7168, .bf16⟩
  | .local _ .vmem, ⟨1, _⟩ => ⟨S4x2048x7168, .i8⟩
  | .local _ .vmem, ⟨2, _⟩ => ⟨S4x16x56, .f32⟩
  | .local _ .vmem, ⟨3, _⟩ => ⟨S4x2048x7168, .i8⟩
  | .local _ .vmem, ⟨4, _⟩ => ⟨S4x16x1x56, .f32⟩
  | .local _ .vmem, ⟨5, _⟩ => ⟨S4x16x8x128, .f32⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2048x7168 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x16x1x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x16x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Apply.lean ====
abbrev S4x2048x2048 : Shape := ⟨3, ![4, 2048, 2048]⟩
abbrev S4x2048x7168 : Shape := ⟨3, ![4, 2048, 7168]⟩
abbrev S1x2048x2048 : Shape := ⟨3, ![1, 2048, 2048]⟩
abbrev S1x2048x512 : Shape := ⟨3, ![1, 2048, 512]⟩
abbrev S2048x2048 : Shape := ⟨2, ![2048, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x7168, .bf16⟩
  | .hbm, ⟨2, _⟩ => ⟨S4x2048x7168, .bf16⟩
  | .local _ .vmem, ⟨0, _⟩ => ⟨S1x2048x2048, .bf16⟩
  | .local _ .vmem, ⟨1, _⟩ => ⟨S1x2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 14], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ApplyRefIdeal.lean ====
abbrev S4x2048x2048 : Shape := ⟨3, ![4, 2048, 2048]⟩
abbrev S4x2048x7168 : Shape := ⟨3, ![4, 2048, 7168]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x7168, .bf16⟩
  | .hbm, ⟨2, _⟩ => ⟨S4x2048x7168, .f32⟩
  | .hbm, ⟨3, _⟩ => ⟨S4x2048x7168, .f32⟩
  | .hbm, ⟨4, _⟩ => ⟨S_, .f32⟩
  | .hbm, ⟨5, _⟩ => ⟨S4x2048x7168, .f32⟩
  | .hbm, ⟨6, _⟩ => ⟨S4x2048x7168, .f32⟩
  | .hbm, ⟨7, _⟩ => ⟨S4x2048x7168, .f32⟩
  | .hbm, ⟨8, _⟩ => ⟨S4x2048x7168, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XZero.lean ====
abbrev S4x2048x7168 : Shape := ⟨3, ![4, 2048, 7168]⟩
abbrev S4x16x56 : Shape := ⟨3, ![4, 16, 56]⟩
abbrev S4x16x8x128 : Shape := ⟨4, ![4, 16, 8, 128]⟩
abbrev S1x16x8x128 : Shape := ⟨4, ![1, 16, 8, 128]⟩
abbrev S1x128x7168 : Shape := ⟨3, ![1, 128, 7168]⟩
abbrev S16x8x128 : Shape := ⟨3, ![16, 8, 128]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩

abbrev nBuf : Space → Nat
  | .hbm => 5
  | .vmem => 8
  | .smem => 1
  | _ => 0

abbrev bufTy : (tb : Table) → Fin (tcTables nBuf tb) → BufTy
  | .hbm, ⟨0, _⟩ => ⟨S4x2048x7168, .bf16⟩
  | .hbm, ⟨1, _⟩ => ⟨S4x2048x7168, .i8⟩
  | .hbm, ⟨2, _⟩ => ⟨S4x16x56, .f32⟩
  | .hbm, ⟨3, _⟩ => ⟨S4x16x8x128, .f32⟩
  | .hbm, ⟨4, _⟩ => ⟨S4x2048x7168, .bf16⟩
  | .local _ .vmem, ⟨0, _⟩ => ⟨S1x16x8x128, .f32⟩
  | .local _ .vmem, ⟨1, _⟩ => ⟨S1x16x8x128, .f32⟩
  | .local _ .vmem, ⟨2, _⟩ => ⟨S1x128x7168, .bf16⟩
  | .local _ .vmem, ⟨3, _⟩ => ⟨S1x128x7168, .bf16⟩
  | .local _ .vmem, ⟨4, _⟩ => ⟨S1x128x7168, .i8⟩
  | .local _ .vmem, ⟨5, _⟩ => ⟨S1x128x7168, .i8⟩
  | .local _ .vmem, ⟨6, _⟩ => ⟨S1x128x7168, .bf16⟩
  | .local _ .vmem, ⟨7, _⟩ => ⟨S1x128x7168, .bf16⟩
  | .local _ .smem, ⟨0, _⟩ => ⟨S4x16x56, .f32⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let arg0 : BitVec 32 := BitVec.ofNat 32 (i 0).val
  let v11 : Index := Scalar.indexCast arg0
  let arg1 : BitVec 32 := BitVec.ofNat 32 (i 1).val
  let v12 : Index := Scalar.indexCast arg1
  let c0_4 : Index := 0#32
  ![v11.toNat, v12.toNat, 0]
def k0_off2 (i : grid0.Coords) : Fin 3 → Nat :=
  let arg0 : BitVec 32 := BitVec.ofNat 32 (i 0).val
  let v31 : Index := Scalar.indexCast arg0
  let arg1 : BitVec 32 := BitVec.ofNat 32 (i 1).val
  let v32 : Index := Scalar.indexCast arg1
  let c1 : Index := 1#32
  ![v31.toNat, v32.toNat, 1]
def k0_off3 (i : grid0.Coords) : Fin 3 → Nat :=
  let arg0 : BitVec 32 := BitVec.ofNat 32 (i 0).val
  let v51 : Index := Scalar.indexCast arg0
  let arg1 : BitVec 32 := BitVec.ofNat 32 (i 1).val
  let v52 : Index := Scalar.indexCast arg1
  let c2 : Index := 2#32
  ![v51.toNat, v52.toNat, 2]
def k0_off4 (i : grid0.Coords) : Fin 3 → Nat :=
  let arg0 : BitVec 32 := BitVec.ofNat 32 (i 0).val
  let v71 : Index := Scalar.indexCast arg0
  let arg1 : BitVec 32 := BitVec.ofNat 32 (i 1).val
  let v72 : Index := Scalar.indexCast arg1
  let c3 : Index := 3#32
  ![v71.toNat, v72.toNat, 3]
def k0_off5 (i : grid0.Coords) : Fin 3 → Nat :=
  let arg0 : BitVec 32 := BitVec.ofNat 32 (i 0).val
  let v91 : Index := Scalar.indexCast arg0
  let arg1 : BitVec 32 := BitVec.ofNat 32 (i 1).val
  let v92 : Index := Scalar.indexCast arg1
  let c4 : Index := 4#32
  ![v91.toNat, v92.toNat, 4]
def k0_off6 (i : grid0.Coords) : Fin 3 → Nat :=
  let arg0 : BitVec 32 := BitVec.ofNat 32 (i 0).val
  let v111 : Index := Scalar.indexCast arg0
  let arg1 : BitVec 32 := BitVec.ofNat 32 (i 1).val
  let v112 : Index := Scalar.indexCast arg1
  let c5 : Index := 5#32
  ![v111.toNat, v112.toNat, 5]
def k0_off7 (i : grid0.Coords) : Fin 3 → Nat :=
  let arg0 : BitVec 32 := BitVec.ofNat 32 (i 0).val
  let v131 : Index := Scalar.indexCast arg0
  let arg1 : BitVec 32 := BitVec.ofNat 32 (i 1).val
  let v132 : Index := Scalar.indexCast arg1
  let c6 : Index := 6#32
  ![v131.toNat, v132.toNat, 6]
def k0_off8 (i : grid0.Coords) : Fin 3 → Nat :=
  let arg0 : BitVec 32 := BitVec.ofNat 32 (i 0).val
  let v151 : Index := Scalar.indexCast arg0
  let arg1 : BitVec 32 := BitVec.ofNat 32 (i 1).val
  let v152 : Index := Scalar.indexCast arg1
  let c7 : Index := 7#32
  ![v151.toNat, v152.toNat, 7]
def k0_off9 (i : grid0.Coords) : Fin 3 → Nat :=
  let arg0 : BitVec 32 := BitVec.ofNat 32 (i 0).val
  let v171 : Index := Scalar.indexCast arg0
  let arg1 : BitVec 32 := BitVec.ofNat 32 (i 1).val
  let v172 : Index := Scalar.indexCast arg1
  let c8 : Index := 8#32
  ![v171.toNat, v172.toNat, 8]
def k0_off10 (i : grid0.Coords) : Fin 3 → Nat :=
  let arg0 : BitVec 32 := BitVec.ofNat 32 (i 0).val
  let v191 : Index := Scalar.indexCast arg0
  let arg1 : BitVec 32 := BitVec.ofNat 32 (i 1).val
  let v192 : Index := Scalar.indexCast arg1
  let c9 : Index := 9#32
  ![v191.toNat, v192.toNat, 9]
def k0_off11 (i : grid0.Coords) : Fin 3 → Nat :=
  let arg0 : BitVec 32 := BitVec.ofNat 32 (i 0).val
  let v211 : Index := Scalar.indexCast arg0
  let arg1 : BitVec 32 := BitVec.ofNat 32 (i 1).val
  let v212 : Index := Scalar.indexCast arg1
  let c10 : Index := 10#32
  ![v211.toNat, v212.toNat, 10]
def k0_off12 (i : grid0.Coords) : Fin 3 → Nat :=
  let arg0 : BitVec 32 := BitVec.ofNat 32 (i 0).val
  let v231 : Index := Scalar.indexCast arg0
  let arg1 : BitVec 32 := BitVec.ofNat 32 (i 1).val
  let v232 : Index := Scalar.indexCast arg1
  let c11 : Index := 11#32
  ![v231.toNat, v232.toNat, 11]
def k0_off13 (i : grid0.Coords) : Fin 3 → Nat :=
  let arg0 : BitVec 32 := BitVec.ofNat 32 (i 0).val
  let v251 : Index := Scalar.indexCast arg0
  let arg1 : BitVec 32 := BitVec.ofNat 32 (i 1).val
  let v252 : Index := Scalar.indexCast arg1
  let c12 : Index := 12#32
  ![v251.toNat, v252.toNat, 12]
def k0_off14 (i : grid0.Coords) : Fin 3 → Nat :=
  let arg0 : BitVec 32 := BitVec.ofNat 32 (i 0).val
  let v271 : Index := Scalar.indexCast arg0
  let arg1 : BitVec 32 := BitVec.ofNat 32 (i 1).val
  let v272 : Index := Scalar.indexCast arg1
  let c13 : Index := 13#32
  ![v271.toNat, v272.toNat, 13]
def k0_off15 (i : grid0.Coords) : Fin 3 → Nat :=
  let arg0 : BitVec 32 := BitVec.ofNat 32 (i 0).val
  let v291 : Index := Scalar.indexCast arg0
  let arg1 : BitVec 32 := BitVec.ofNat 32 (i 1).val
  let v292 : Index := Scalar.indexCast arg1
  let c14 : Index := 14#32
  ![v291.toNat, v292.toNat, 14]
def k0_off16 (i : grid0.Coords) : Fin 3 → Nat :=
  let arg0 : BitVec 32 := BitVec.ofNat 32 (i 0).val
  let v311 : Index := Scalar.indexCast arg0
  let arg1 : BitVec 32 := BitVec.ofNat 32 (i 1).val
  let v312 : Index := Scalar.indexCast arg1
  let c15 : Index := 15#32
  ![v311.toNat, v312.toNat, 15]
def k0_off17 (i : grid0.Coords) : Fin 3 → Nat :=
  let arg0 : BitVec 32 := BitVec.ofNat 32 (i 0).val
  let v331 : Index := Scalar.indexCast arg0
  let arg1 : BitVec 32 := BitVec.ofNat 32 (i 1).val
  let v332 : Index := Scalar.indexCast arg1
  let c16 : Index := 16#32
  ![v331.toNat, v332.toNat, 16]
def k0_off18 (i : grid0.Coords) : Fin 3 → Nat :=
  let arg0 : BitVec 32 := BitVec.ofNat 32 (i 0).val
  let v351 : Index := Scalar.indexCast arg0
  let arg1 : BitVec 32 := BitVec.ofNat 32 (i 1).val
  let v352 : Index := Scalar.indexCast arg1
  let c17 : Index := 17#32
  ![v351.toNat, v352.toNat, 17]
def k0_off19 (i : grid0.Coords) : Fin 3 → Nat :=
  let arg0 : BitVec 32 := BitVec.ofNat 32 (i 0).val
  let v371 : Index := Scalar.indexCast arg0
  let arg1 : BitVec 32 := BitVec.ofNat 32 (i 1).val
  let v372 : Index := Scalar.indexCast arg1
  let c18 : Index := 18#32
  ![v371.toNat, v372.toNat, 18]
def k0_off20 (i : grid0.Coords) : Fin 3 → Nat :=
  let arg0 : BitVec 32 := BitVec.ofNat 32 (i 0).val
  let v391 : Index := Scalar.indexCast arg0
  let arg1 : BitVec 32 := BitVec.ofNat 32 (i 1).val
  let v392 : Index := Scalar.indexCast arg1
  let c19 : Index := 19#32
  ![v391.toNat, v392.toNat, 19]
def k0_off21 (i : grid0.Coords) : Fin 3 → Nat :=
  let arg0 : BitVec 32 := BitVec.ofNat 32 (i 0).val
  let v411 : Index := Scalar.indexCast arg0
  let arg1 : BitVec 32 := BitVec.ofNat 32 (i 1).val
  let v412 : Index := Scalar.indexCast arg1
  let c20 : Index := 20#32
  ![v411.toNat, v412.toNat, 20]
def k0_off22 (i : grid0.Coords) : Fin 3 → Nat :=
  let arg0 : BitVec 32 := BitVec.ofNat 32 (i 0).val
  let v431 : Index := Scalar.indexCast arg0
  let arg1 : BitVec 32 := BitVec.ofNat 32 (i 1).val
  let v432 : Index := Scalar.indexCast arg1
  let c21 : Index := 21#32
  ![v431.toNat, v432.toNat, 21]
def k0_off23 (i : grid0.Coords) : Fin 3 → Nat :=
  let arg0 : BitVec 32 := BitVec.ofNat 32 (i 0).val
  let v451 : Index := Scalar.indexCast arg0
  let arg1 : BitVec 32 := BitVec.ofNat 32 (i 1).val
  let v452 : Index := Scalar.indexCast arg1
  let c22 : Index := 22#32
  ![v451.toNat, v452.toNat, 22]
def k0_off24 (i : grid0.Coords) : Fin 3 → Nat :=
  let arg0 : BitVec 32 := BitVec.ofNat 32 (i 0).val
  let v471 : Index := Scalar.indexCast arg0
  let arg1 : BitVec 32 := BitVec.ofNat 32 (i 1).val
  let v472 : Index := Scalar.indexCast arg1
  let c23 : Index := 23#32
  ![v471.toNat, v472.toNat, 23]
def k0_off25 (i : grid0.Coords) : Fin 3 → Nat :=
  let arg0 : BitVec 32 := BitVec.ofNat 32 (i 0).val
  let v491 : Index := Scalar.indexCast arg0
  let arg1 : BitVec 32 := BitVec.ofNat 32 (i 1).val
  let v492 : Index := Scalar.indexCast arg1
  let c24 : Index := 24#32
  ![v491.toNat, v492.toNat, 24]
def k0_off26 (i : grid0.Coords) : Fin 3 → Nat :=
  let arg0 : BitVec 32 := BitVec.ofNat 32 (i 0).val
  let v511 : Index := Scalar.indexCast arg0
  let arg1 : BitVec 32 := BitVec.ofNat 32 (i 1).val
  let v512 : Index := Scalar.indexCast arg1
  let c25 : Index := 25#32
  ![v511.toNat, v512.toNat, 25]
def k0_off27 (i : grid0.Coords) : Fin 3 → Nat :=
  let arg0 : BitVec 32 := BitVec.ofNat 32 (i 0).val
  let v531 : Index := Scalar.indexCast arg0
  let arg1 : BitVec 32 := BitVec.ofNat 32 (i 1).val
  let v532 : Index := Scalar.indexCast arg1
  let c26 : Index := 26#32
  ![v531.toNat, v532.toNat, 26]
def k0_off28 (i : grid0.Coords) : Fin 3 → Nat :=
  let arg0 : BitVec 32 := BitVec.ofNat 32 (i 0).val
  let v551 : Index := Scalar.indexCast arg0
  let arg1 : BitVec 32 := BitVec.ofNat 32 (i 1).val
  let v552 : Index := Scalar.indexCast arg1
  let c27 : Index := 27#32
  ![v551.toNat, v552.toNat, 27]
def k0_off29 (i : grid0.Coords) : Fin 3 → Nat :=
  let arg0 : BitVec 32 := BitVec.ofNat 32 (i 0).val
  let v571 : Index := Scalar.indexCast arg0
  let arg1 : BitVec 32 := BitVec.ofNat 32 (i 1).val
  let v572 : Index := Scalar.indexCast arg1
  let c28 : Index := 28#32
  ![v571.toNat, v572.toNat, 28]
def k0_off30 (i : grid0.Coords) : Fin 3 → Nat :=
  let arg0 : BitVec 32 := BitVec.ofNat 32 (i 0).val
  let v591 : Index := Scalar.indexCast arg0
  let arg1 : BitVec 32 := BitVec.ofNat 32 (i 1).val
  let v592 : Index := Scalar.indexCast arg1
  let c29 : Index := 29#32
  ![v591.toNat, v592.toNat, 29]
def k0_off31 (i : grid0.Coords) : Fin 3 → Nat :=
  let arg0 : BitVec 32 := BitVec.ofNat 32 (i 0).val
  let v611 : Index := Scalar.indexCast arg0
  let arg1 : BitVec 32 := BitVec.ofNat 32 (i 1).val
  let v612 : Index := Scalar.indexCast arg1
  let c30 : Index := 30#32
  ![v611.toNat, v612.toNat, 30]
def k0_off32 (i : grid0.Coords) : Fin 3 → Nat :=
  let arg0 : BitVec 32 := BitVec.ofNat 32 (i 0).val
  let v631 : Index := Scalar.indexCast arg0
  let arg1 : BitVec 32 := BitVec.ofNat 32 (i 1).val
  let v632 : Index := Scalar.indexCast arg1
  let c31 : Index := 31#32
  ![v631.toNat, v632.toNat, 31]
def k0_off33 (i : grid0.Coords) : Fin 3 → Nat :=
  let arg0 : BitVec 32 := BitVec.ofNat 32 (i 0).val
  let v651 : Index := Scalar.indexCast arg0
  let arg1 : BitVec 32 := BitVec.ofNat 32 (i 1).val
  let v652 : Index := Scalar.indexCast arg1
  let c32 : Index := 32#32
  ![v651.toNat, v652.toNat, 32]
def k0_off34 (i : grid0.Coords) : Fin 3 → Nat :=
  let arg0 : BitVec 32 := BitVec.ofNat 32 (i 0).val
  let v671 : Index := Scalar.indexCast arg0
  let arg1 : BitVec 32 := BitVec.ofNat 32 (i 1).val
  let v672 : Index := Scalar.indexCast arg1
  let c33 : Index := 33#32
  ![v671.toNat, v672.toNat, 33]
def k0_off35 (i : grid0.Coords) : Fin 3 → Nat :=
  let arg0 : BitVec 32 := BitVec.ofNat 32 (i 0).val
  let v691 : Index := Scalar.indexCast arg0
  let arg1 : BitVec 32 := BitVec.ofNat 32 (i 1).val
  let v692 : Index := Scalar.indexCast arg1
  let c34 : Index := 34#32
  ![v691.toNat, v692.toNat, 34]
def k0_off36 (i : grid0.Coords) : Fin 3 → Nat :=
  let arg0 : BitVec 32 := BitVec.ofNat 32 (i 0).val
  let v711 : Index := Scalar.indexCast arg0
  let arg1 : BitVec 32 := BitVec.ofNat 32 (i 1).val
  let v712 : Index := Scalar.indexCast arg1
  let c35 : Index := 35#32
  ![v711.toNat, v712.toNat, 35]
def k0_off37 (i : grid0.Coords) : Fin 3 → Nat :=
  let arg0 : BitVec 32 := BitVec.ofNat 32 (i 0).val
  let v731 : Index := Scalar.indexCast arg0
  let arg1 : BitVec 32 := BitVec.ofNat 32 (i 1).val
  let v732 : Index := Scalar.indexCast arg1
  let c36 : Index := 36#32
  ![v731.toNat, v732.toNat, 36]
def k0_off38 (i : grid0.Coords) : Fin 3 → Nat :=
  let arg0 : BitVec 32 := BitVec.ofNat 32 (i 0).val
  let v751 : Index := Scalar.indexCast arg0
  let arg1 : BitVec 32 := BitVec.ofNat 32 (i 1).val
  let v752 : Index := Scalar.indexCast arg1
  let c37 : Index := 37#32
  ![v751.toNat, v752.toNat, 37]
def k0_off39 (i : grid0.Coords) : Fin 3 → Nat :=
  let arg0 : BitVec 32 := BitVec.ofNat 32 (i 0).val
  let v771 : Index := Scalar.indexCast arg0
  let arg1 : BitVec 32 := BitVec.ofNat 32 (i 1).val
  let v772 : Index := Scalar.indexCast arg1
  let c38 : Index := 38#32
  ![v771.toNat, v772.toNat, 38]
def k0_off40 (i : grid0.Coords) : Fin 3 → Nat :=
  let arg0 : BitVec 32 := BitVec.ofNat 32 (i 0).val
  let v791 : Index := Scalar.indexCast arg0
  let arg1 : BitVec 32 := BitVec.ofNat 32 (i 1).val
  let v792 : Index := Scalar.indexCast arg1
  let c39 : Index := 39#32
  ![v791.toNat, v792.toNat, 39]
def k0_off41 (i : grid0.Coords) : Fin 3 → Nat :=
  let arg0 : BitVec 32 := BitVec.ofNat 32 (i 0).val
  let v811 : Index := Scalar.indexCast arg0
  let arg1 : BitVec 32 := BitVec.ofNat 32 (i 1).val
  let v812 : Index := Scalar.indexCast arg1
  let c40 : Index := 40#32
  ![v811.toNat, v812.toNat, 40]
def k0_off42 (i : grid0.Coords) : Fin 3 → Nat :=
  let arg0 : BitVec 32 := BitVec.ofNat 32 (i 0).val
  let v831 : Index := Scalar.indexCast arg0
  let arg1 : BitVec 32 := BitVec.ofNat 32 (i 1).val
  let v832 : Index := Scalar.indexCast arg1
  let c41 : Index := 41#32
  ![v831.toNat, v832.toNat, 41]
def k0_off43 (i : grid0.Coords) : Fin 3 → Nat :=
  let arg0 : BitVec 32 := BitVec.ofNat 32 (i 0).val
  let v851 : Index := Scalar.indexCast arg0
  let arg1 : BitVec 32 := BitVec.ofNat 32 (i 1).val
  let v852 : Index := Scalar.indexCast arg1
  let c42 : Index := 42#32
  ![v851.toNat, v852.toNat, 42]
def k0_off44 (i : grid0.Coords) : Fin 3 → Nat :=
  let arg0 : BitVec 32 := BitVec.ofNat 32 (i 0).val
  let v871 : Index := Scalar.indexCast arg0
  let arg1 : BitVec 32 := BitVec.ofNat 32 (i 1).val
  let v872 : Index := Scalar.indexCast arg1
  let c43 : Index := 43#32
  ![v871.toNat, v872.toNat, 43]
def k0_off45 (i : grid0.Coords) : Fin 3 → Nat :=
  let arg0 : BitVec 32 := BitVec.ofNat 32 (i 0).val
  let v891 : Index := Scalar.indexCast arg0
  let arg1 : BitVec 32 := BitVec.ofNat 32 (i 1).val
  let v892 : Index := Scalar.indexCast arg1
  let c44 : Index := 44#32
  ![v891.toNat, v892.toNat, 44]
def k0_off46 (i : grid0.Coords) : Fin 3 → Nat :=
  let arg0 : BitVec 32 := BitVec.ofNat 32 (i 0).val
  let v911 : Index := Scalar.indexCast arg0
  let arg1 : BitVec 32 := BitVec.ofNat 32 (i 1).val
  let v912 : Index := Scalar.indexCast arg1
  let c45 : Index := 45#32
  ![v911.toNat, v912.toNat, 45]
def k0_off47 (i : grid0.Coords) : Fin 3 → Nat :=
  let arg0 : BitVec 32 := BitVec.ofNat 32 (i 0).val
  let v931 : Index := Scalar.indexCast arg0
  let arg1 : BitVec 32 := BitVec.ofNat 32 (i 1).val
  let v932 : Index := Scalar.indexCast arg1
  let c46 : Index := 46#32
  ![v931.toNat, v932.toNat, 46]
def k0_off48 (i : grid0.Coords) : Fin 3 → Nat :=
  let arg0 : BitVec 32 := BitVec.ofNat 32 (i 0).val
  let v951 : Index := Scalar.indexCast arg0
  let arg1 : BitVec 32 := BitVec.ofNat 32 (i 1).val
  let v952 : Index := Scalar.indexCast arg1
  let c47 : Index := 47#32
  ![v951.toNat, v952.toNat, 47]
def k0_off49 (i : grid0.Coords) : Fin 3 → Nat :=
  let arg0 : BitVec 32 := BitVec.ofNat 32 (i 0).val
  let v971 : Index := Scalar.indexCast arg0
  let arg1 : BitVec 32 := BitVec.ofNat 32 (i 1).val
  let v972 : Index := Scalar.indexCast arg1
  let c48 : Index := 48#32
  ![v971.toNat, v972.toNat, 48]
def k0_off50 (i : grid0.Coords) : Fin 3 → Nat :=
  let arg0 : BitVec 32 := BitVec.ofNat 32 (i 0).val
  let v991 : Index := Scalar.indexCast arg0
  let arg1 : BitVec 32 := BitVec.ofNat 32 (i 1).val
  let v992 : Index := Scalar.indexCast arg1
  let c49 : Index := 49#32
  ![v991.toNat, v992.toNat, 49]
def k0_off51 (i : grid0.Coords) : Fin 3 → Nat :=
  let arg0 : BitVec 32 := BitVec.ofNat 32 (i 0).val
  let v1011 : Index := Scalar.indexCast arg0
  let arg1 : BitVec 32 := BitVec.ofNat 32 (i 1).val
  let v1012 : Index := Scalar.indexCast arg1
  let c50 : Index := 50#32
  ![v1011.toNat, v1012.toNat, 50]
def k0_off52 (i : grid0.Coords) : Fin 3 → Nat :=
  let arg0 : BitVec 32 := BitVec.ofNat 32 (i 0).val
  let v1031 : Index := Scalar.indexCast arg0
  let arg1 : BitVec 32 := BitVec.ofNat 32 (i 1).val
  let v1032 : Index := Scalar.indexCast arg1
  let c51 : Index := 51#32
  ![v1031.toNat, v1032.toNat, 51]
def k0_off53 (i : grid0.Coords) : Fin 3 → Nat :=
  let arg0 : BitVec 32 := BitVec.ofNat 32 (i 0).val
  let v1051 : Index := Scalar.indexCast arg0
  let arg1 : BitVec 32 := BitVec.ofNat 32 (i 1).val
  let v1052 : Index := Scalar.indexCast arg1
  let c52 : Index := 52#32
  ![v1051.toNat, v1052.toNat, 52]
def k0_off54 (i : grid0.Coords) : Fin 3 → Nat :=
  let arg0 : BitVec 32 := BitVec.ofNat 32 (i 0).val
  let v1071 : Index := Scalar.indexCast arg0
  let arg1 : BitVec 32 := BitVec.ofNat 32 (i 1).val
  let v1072 : Index := Scalar.indexCast arg1
  let c53 : Index := 53#32
  ![v1071.toNat, v1072.toNat, 53]
def k0_off55 (i : grid0.Coords) : Fin 3 → Nat :=
  let arg0 : BitVec 32 := BitVec.ofNat 32 (i 0).val
  let v1091 : Index := Scalar.indexCast arg0
  let arg1 : BitVec 32 := BitVec.ofNat 32 (i 1).val
  let v1092 : Index := Scalar.indexCast arg1
  let c54 : Index := 54#32
  ![v1091.toNat, v1092.toNat, 54]
def k0_off56 (i : grid0.Coords) : Fin 3 → Nat :=
  let arg0 : BitVec 32 := BitVec.ofNat 32 (i 0).val
  let v1111 : Index := Scalar.indexCast arg0
  let arg1 : BitVec 32 := BitVec.ofNat 32 (i 1).val
  let v1112 : Index := Scalar.indexCast arg1
  let c55 : Index := 55#32
  ![v1111.toNat, v1112.toNat, 55]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4x16x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x7168 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XZeroRefIdeal.lean ====
abbrev S4x2048x7168 : Shape := ⟨3, ![4, 2048, 7168]⟩
abbrev S4x16x56 : Shape := ⟨3, ![4, 16, 56]⟩
abbrev S4x16x8x128 : Shape := ⟨4, ![4, 16, 8, 128]⟩
abbrev S4x16x128x56x128 : Shape := ⟨5, ![4, 16, 128, 56, 128]⟩
abbrev S4x16x1x56x1 : Shape := ⟨5, ![4, 16, 1, 56, 1]⟩
abbrev S4 : Shape := ⟨1, ![4]⟩
abbrev S4x1x1 : Shape := ⟨3, ![4, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x7168, .bf16⟩
  | .hbm, ⟨1, _⟩ => ⟨S4x2048x7168, .i8⟩
  | .hbm, ⟨2, _⟩ => ⟨S4x16x56, .f32⟩
  | .hbm, ⟨3, _⟩ => ⟨S4x16x8x128, .f32⟩
  | .hbm, ⟨4, _⟩ => ⟨S4x2048x7168, .bf16⟩
  | .local _ .vmem, ⟨0, _⟩ => ⟨S4x2048x7168, .bf16⟩
  | .local _ .vmem, ⟨1, _⟩ => ⟨S4x2048x7168, .i8⟩
  | .local _ .vmem, ⟨2, _⟩ => ⟨S4x16x56, .f32⟩
  | .local _ .vmem, ⟨3, _⟩ => ⟨S4x16x8x128, .f32⟩
  | .local _ .vmem, ⟨4, _⟩ => ⟨S4x2048x7168, .bf16⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4x2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2048x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x16x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Gram.lean ====
abbrev S4x2048x7168 : Shape := ⟨3, ![4, 2048, 7168]⟩
abbrev S10 : Shape := ⟨1, ![10]⟩
abbrev S4x2048x2048 : Shape := ⟨3, ![4, 2048, 2048]⟩
abbrev S1x512x7168 : Shape := ⟨3, ![1, 512, 7168]⟩
abbrev S1 : Shape := ⟨1, ![1]⟩
abbrev S1x2048x2048 : Shape := ⟨3, ![1, 2048, 2048]⟩
abbrev S512x7168 : Shape := ⟨2, ![512, 7168]⟩
abbrev S512x512 : Shape := ⟨2, ![512, 512]⟩
abbrev S1x512x512 : Shape := ⟨3, ![1, 512, 512]⟩
abbrev S1x512x2048 : Shape := ⟨3, ![1, 512, 2048]⟩
abbrev S512x2048 : Shape := ⟨2, ![512, 2048]⟩
abbrev S1x2048x512 : Shape := ⟨3, ![1, 2048, 512]⟩
abbrev S2048x512 : Shape := ⟨2, ![2048, 512]⟩

abbrev nBuf : Space → Nat
  | .hbm => 3
  | .vmem => 6
  | .smem => 2
  | _ => 0

abbrev bufTy : (tb : Table) → Fin (tcTables nBuf tb) → BufTy
  | .hbm, ⟨0, _⟩ => ⟨S4x2048x7168, .bf16⟩
  | .hbm, ⟨1, _⟩ => ⟨S4x2048x2048, .bf16⟩
  | .hbm, ⟨2, _⟩ => ⟨S4x2048x2048, .bf16⟩
  | .local _ .vmem, ⟨0, _⟩ => ⟨S1x512x7168, .bf16⟩
  | .local _ .vmem, ⟨1, _⟩ => ⟨S1x512x7168, .bf16⟩
  | .local _ .vmem, ⟨2, _⟩ => ⟨S1x512x7168, .bf16⟩
  | .local _ .vmem, ⟨3, _⟩ => ⟨S1x512x7168, .bf16⟩
  | .local _ .vmem, ⟨4, _⟩ => ⟨S1x2048x2048, .bf16⟩
  | .local _ .vmem, ⟨5, _⟩ => ⟨S1x2048x2048, .bf16⟩
  | .local _ .smem, ⟨0, _⟩ => ⟨S10, .i32⟩
  | .local _ .smem, ⟨1, _⟩ => ⟨S10, .i32⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![4, 10], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c512_i32 : BitVec 32 := 512#32
  let v10 : BitVec 32 := Scalar.muli v1 c512_i32
  v10

def k0_chk1 (v1 : BitVec 32) : Prop :=
  (512 ∣ (k0_mult1 v1).toNat)
theorem k0_mult1_dvd : ∀ (v1 : BitVec 32) (k0_hw1 : k0_chk1 v1), 512 ∣ (k0_mult1 v1).toNat := fun v1 k0_hw1 => k0_hw1

def k0_mult2 (v3 : BitVec 32) : BitVec 32 :=
  let c512_i32_5 : BitVec 32 := 512#32
  let v12 : BitVec 32 := Scalar.muli v3 c512_i32_5
  v12

def k0_off2 (v1 : BitVec 32) (v3 : BitVec 32) : Fin 3 → Nat :=
  let c0_6 : Index := 0#32
  let c512_i32 : BitVec 32 := 512#32
  let v10 : BitVec 32 := Scalar.muli v1 c512_i32
  let v11 : BitVec 32 := v10
  let v14 : Index := Scalar.indexCast v11
  let c512_i32_5 : BitVec 32 := 512#32
  let v12 : BitVec 32 := Scalar.muli v3 c512_i32_5
  let v13 : BitVec 32 := v12
  let v15 : Index := Scalar.indexCast v13
  ![0, v14.toNat, v15.toNat]
def k0_off3 (v1 : BitVec 32) (v3 : BitVec 32) : Fin 3 → Nat :=
  let c0_8 : Index := 0#32
  let c512_i32_5 : BitVec 32 := 512#32
  let v12 : BitVec 32 := Scalar.muli v3 c512_i32_5
  let v13 : BitVec 32 := v12
  let v26 : Index := Scalar.indexCast v13
  let c512_i32 : BitVec 32 := 512#32
  let v10 : BitVec 32 := Scalar.muli v1 c512_i32
  let v11 : BitVec 32 := v10
  let v27 : Index := Scalar.indexCast v11
  ![0, v26.toNat, v27.toNat]
def k0_cond1 (v1 : BitVec 32) (v3 : BitVec 32) : BitVec 1 :=
  let v19 : BitVec 1 := Scalar.cmpi .ne v1 v3
  let v20 : BitVec 32 := Scalar.extui v19
  let c0_i32 : BitVec 32 := 0#32
  let v21 : BitVec 1 := Scalar.cmpi .ne v20 c0_i32
  v21

def k0_chk2 (v1 : BitVec 32) (v3 : BitVec 32) : Prop :=
  (512 ∣ (k0_mult2 v3).toNat) ∧
  (∀ a, (k0_off2 v1 v3) a + S1x512x512.size a ≤ S1x2048x2048.size a) ∧
  (∀ (hinb : ∀ a, (k0_off2 v1 v3) a + S1x512x512.size a ≤ S1x2048x2048.size a), (Rect.unit (s := S1x2048x2048) (k0_off2 v1 v3) S1x512x512.size hinb).PackedRows (EltTy.packing .bf16)) ∧
  (∀ (k0_h1 : k0_cond1 v1 v3 = 1#1), ∀ a, (k0_off3 v1 v3) a + S1x512x512.size a ≤ S1x2048x2048.size a) ∧
  (∀ (k0_h1 : k0_cond1 v1 v3 = 1#1), ∀ (hinb : ∀ a, (k0_off3 v1 v3) a + S1x512x512.size a ≤ S1x2048x2048.size a), (Rect.unit (s := S1x2048x2048) (k0_off3 v1 v3) S1x512x512.size hinb).PackedRows (EltTy.packing .bf16))
theorem k0_mult2_dvd : ∀ (v1 : BitVec 32) (v3 : BitVec 32) (k0_hw2 : k0_chk2 v1 v3), 512 ∣ (k0_mult2 v3).toNat := fun v1 v3 k0_hw2 => k0_hw2.1
theorem k0_off2_inb : ∀ (v1 : BitVec 32) (v3 : BitVec 32) (k0_hw2 : k0_chk2 v1 v3), ∀ a, (k0_off2 v1 v3) a + S1x512x512.size a ≤ S1x2048x2048.size a := fun v1 v3 k0_hw2 => k0_hw2.2.1
theorem k0_off2_packedbf16 : ∀ (v1 : BitVec 32) (v3 : BitVec 32) (k0_hw2 : k0_chk2 v1 v3), (Rect.unit (s := S1x2048x2048) (k0_off2 v1 v3) S1x512x512.size (k0_off2_inb v1 v3 k0_hw2)).PackedRows (EltTy.packing .bf16) := fun v1 v3 k0_hw2 => k0_hw2.2.2.1 (k0_off2_inb v1 v3 k0_hw2)
theorem k0_off3_inb : ∀ (v1 : BitVec 32) (v3 : BitVec 32) (k0_hw2 : k0_chk2 v1 v3), ∀ (k0_h1 : k0_cond1 v1 v3 = 1#1), ∀ a, (k0_off3 v1 v3) a + S1x512x512.size a ≤ S1x2048x2048.size a := fun v1 v3 k0_hw2 k0_h1 => k0_hw2.2.2.2.1 k0_h1
theorem k0_off3_packedbf16 : ∀ (v1 : BitVec 32) (v3 : BitVec 32) (k0_hw2 : k0_chk2 v1 v3), ∀ (k0_h1 : k0_cond1 v1 v3 = 1#1), (Rect.unit (s := S1x2048x2048) (k0_off3 v1 v3) S1x512x512.size (k0_off3_inb v1 v3 k0_hw2 k0_h1)).PackedRows (EltTy.packing .bf16) := fun v1 v3 k0_hw2 k0_h1 => k0_hw2.2.2.2.2 k0_h1 (k0_off3_inb v1 v3 k0_hw2 k0_h1)

def k0_cond2 (i : grid0.Coords) : BitVec 1 :=
  let arg1 : BitVec 32 := BitVec.ofNat 32 (i 1).val
  let c9_i32 : BitVec 32 := 9#32
  let v22 : BitVec 1 := Scalar.cmpi .eq arg1 c9_i32
  let v23 : BitVec 32 := Scalar.extui v22
  let c0_i32_7 : BitVec 32 := 0#32
  let v24 : BitVec 1 := Scalar.cmpi .ne v23 c0_i32_7
  v24

def cc0_transform_0 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S10.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S10) ![v0.toNat] S1.size (k0_off1_inb i)) numel1_S1
  let c0_i32 : BitVec 32 := 0#32
  let c0_i32_0 : BitVec 32 := 0#32
  ![arg0.toNat, v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== GramRefIdeal.lean ====
abbrev S4x2048x7168 : Shape := ⟨3, ![4, 2048, 7168]⟩
abbrev S4x2048x2048 : Shape := ⟨3, ![4, 2048, 2048]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x7168, .bf16⟩
  | .hbm, ⟨1, _⟩ => ⟨S4x2048x2048, .f32⟩
  | .hbm, ⟨2, _⟩ => ⟨S4x2048x2048, .bf16⟩
  | .hbm, ⟨3, _⟩ => ⟨S4x2048x2048, .f32⟩
  | .hbm, ⟨4, _⟩ => ⟨S4x2048x2048, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S4x2048x2048, .f32⟩
  | .hbm, ⟨12, _⟩ => ⟨S4x2048x2048, .bf16⟩
  | _, _ => ⟨S4x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Final.Value.lean ====
/-
  Hand-written, untrusted. The last step of the iteration, as arrays over the extended reals: after the run of `FinalIdeal` the two
  result arrays are the reference's composed terms of the three argument arrays.
-/
module

public import proofs.«01_k».proof.Proof.Gen.FinalIdeal.Value
public import proofs.«01_k».proof.Proof.Gen.FinalRefIdeal.Read
public import Idealize.ShloMosaic.Lib.Pipeline.ValueKit
public import Idealize.ShloMosaic.PureOps.Ideal.Laws

@[expose] public section

set_option maxRecDepth 16384

noncomputable section

namespace Cert.Proof.Final

open Idealize.ShloMosaic Idealize.ShloMosaic.TcCoe Idealize.SL.Sem
open Idealize.ShloMosaic.Pipeline (Dat)
open Cert.FinalIdeal Cert.FinalIdeal.Gen

variable (m : (ℓ : Loc nD τ sig) → Buf (Elt Ideal) ℓ)

/-- Grid point `t` is batch entry `t / 14` and column tile `t % 14`. -/
theorem idx : ∀ t : Fin cfg0.N, win0_0.index t = ![t.val / 14, 0, 0] ∧ win0_1.index t = ![t.val / 14, 0, t.val % 14]
    ∧ win0_2.index t = ![t.val / 14, 0, t.val % 14] ∧ win0_3.index t = ![t.val / 14, 0, t.val % 14]
    ∧ win0_4.index t = ![t.val / 14, 0, t.val % 14] :=
  (by decide +kernel : ∀ t : Fin grid0.N, _)

/-- The update, element by element: what the body stores is the reference's `update` at the element's place in the array. -/
theorem point4 (c : Dev nD) (t : Fin cfg0.N) (y) : k0_pay2 (iblk m c 0 t) (iblk m c 1 t) (iblk m c 1 t) y
    = Cert.FinalRefIdeal.Read.val_main_v14 (F := Ideal) (m ((c : Thread nD τ).loc main_arg0)) (m ((c : Thread nD τ).loc main_arg1))
        (((cfg0.win 4).blk t).view.emb y) := by
  rw [← Cert.FinalRefIdeal.Read.val_main_v14_eq]
  pointwise [k0_pay2, k0_pay1]
  blk_point [iblk, V, idx t]

/-- The new weights, element by element. -/
theorem point3 (c : Dev nD) (t : Fin cfg0.N) (y) :
    k0_pay3 (iblk m c 0 t) (iblk m c 1 t) (iblk m c 1 t) (iblk m c 2 t) y
    = Cert.FinalRefIdeal.Read.val_main_v13 (F := Ideal) (m ((c : Thread nD τ).loc main_arg0)) (m ((c : Thread nD τ).loc main_arg1))
        (m ((c : Thread nD τ).loc main_arg2)) (((cfg0.win 3).blk t).view.emb y) := by
  rw [← Cert.FinalRefIdeal.Read.val_main_v13_eq]
  pointwise [k0_pay3, k0_pay1]
  blk_point [iblk, V, idx t]

/-- After the run the second result array is the reference's `update`. -/
theorem final4 (c : Dev nD) : (dats m 0 c).arrAt 4 cfg0.N
    = Cert.FinalRefIdeal.Read.val_main_v14 (F := Ideal) (m ((c : Thread nD τ).loc main_arg0)) (m ((c : Thread nD τ).loc main_arg1)) := by
  refine (dats m 0 c).arrAt_eq_of_covers 4 _ (by decide +kernel) fun t _ y => ?_
  blk_simp
  rw [after0_4]; frame_out
  exact point4 m c t y

/-- After the run the first result array is the reference's `w_new`. -/
theorem final3 (c : Dev nD) : (dats m 0 c).arrAt 3 cfg0.N
    = Cert.FinalRefIdeal.Read.val_main_v13 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]; frame_out
  exact point3 m c t y

end Cert.Proof.Final

end
-- ==== Proof.Momentum.Chain.lean ====
/-
  Hand-written, untrusted. What one grid point of the momentum kernel computes, written with the column tile as a variable: the
  body's 56 copies of each loop's trip are one definition each, and the words its run leaves in the output blocks are the
  lists and the folds of those definitions over the tiles.
-/
module

public import proofs.«01_k».proof.Proof.Gen.MomentumIdeal.Frame

@[expose] public section

set_option maxRecDepth 16384

noncomputable section

namespace Cert.Proof.Momentum

open Idealize.ShloMosaic Idealize.ShloMosaic.TcCoe
open Cert.MomentumIdeal Cert.MomentumIdeal.Gen

variable {F : FTy → Type} [FloatOps F]

/-! ## Where tile `k` lies -/

theorem inb3 (k : Nat) (h : k < 56) : ∀ a, (![0, 0, 128 * k] : Fin 3 → Nat) a + S1x128x128.size a ≤ S1x128x7168.size a := by
  intro a; fin_cases a <;> simp [S1x128x128, S1x128x7168] <;> omega

theorem inb2 (k : Nat) (h : k < 56) : ∀ a, (![0, 128 * k] : Fin 2 → Nat) a + S128x128.size a ≤ S128x7168.size a := by
  intro a; fin_cases a <;> simp [S128x128, S128x7168] <;> omega

/-- Tile `k` of a block of 128 rows. -/
abbrev box3 (k : Nat) (h : k < 56) : Rect S1x128x7168 := Rect.unit ![0, 0, 128 * k] S1x128x128.size (inb3 k h)

/-- Tile `k` of the scratch buffer. -/
abbrev box2 (k : Nat) (h : k < 56) : Rect S128x7168 := Rect.unit ![0, 128 * k] S128x128.size (inb2 k h)

/-- The place of the old scale of tile `k` at grid point `i`. -/
def scaleOff (i : grid0.Coords) (k : Nat) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat, k]

theorem scaleOff_eq (i : grid0.Coords) (k : Nat) : scaleOff i k = ![(i 0).val, (i 1).val, k] := by
  have h := k0_off1_eq i
  have h0 := congrFun h 0
  have h1 := congrFun h 1
  funext a
  fin_cases a
  · exact h0
  · exact h1
  · rfl

theorem scaleInb (i : grid0.Coords) (k : Nat) (h : k < 56) : ∀ a, scaleOff i k a + S1x1x1.size a ≤ S4x16x56.size a := by
  rw [scaleOff_eq]
  have h0 : (i 0).val < 4 := (i 0).isLt
  have h1 : (i 1).val < 16 := (i 1).isLt
  intro a; fin_cases a <;> simp [S1x1x1, S4x16x56] <;> omega

/-! ## One trip of each loop, at a tile -/

/-- The absolute maximum of a tile, as the body takes it: rows first, then columns. -/
def tileMax (m : FVec F S128x128 .f32) : FVec F S1x1 .f32 :=
  shapeCast S1x1 (multiReduction .maximumf [1] S1 (shapeCast S1x128 (multiReduction .maximumf [0] S128 (absf m) 0xFF800000#32
    reduces_S128x128_S128 (.inl rfl) rfl) shapeCasts_S128_S1x128) 0xFF800000#32 reduces_S1x128_S1 (.inl rfl) rfl) shapeCasts_S1_S1x1

/-- The new scale of a tile of momentum. -/
def tileScale (m : FVec F S128x128 .f32) : FVec F S1x1 .f32 :=
  select (cmpf .oeq (tileMax m) (broadcast S1x1 (Scalar.ofBits .f32 0x00000000#32)))
    (broadcast S1x1 (Scalar.ofBits .f32 0x3F800000#32)) (divf (tileMax m) (broadcast S1x1 (Scalar.ofBits .f32 0x42FE0000#32)))

/-- The first loop's trip `k`: lane `k` of the vector of scales becomes the tile's scale. -/
def scaleStep (k : Nat) (prev : FVec F S1x56 .f32) (m : FVec F S128x128 .f32) : FVec F S1x56 .f32 :=
  select (cmpi .eq (iota .tc S1x56 32 [1] iota_S1x56_d1_w32) (broadcast S1x56 (BitVec.ofNat 32 k)))
    (broadcastTo S1x56 (shapeCast S1x1 (tileScale m) shapeCasts_S1x1_S1x1) broadcasts_S1x1_S1x56) prev

theorem sliceInb (k : Nat) (h : k < 56) : S1x56.Slices ![0, k] S1x1 := by
  refine ⟨rfl, fun a => ?_⟩
  fin_cases a <;> simp [S1x56, S1x1] <;> omega

/-- Lane `k` of the vector of scales. -/
def lane (k : Nat) (h : k < 56) (sc : FVec F S1x56 .f32) : FVec F S1x1 .f32 := extractStridedSlice S1x1 ![0, k] sc (sliceInb k h)

/-- The quantised tile, still as floats. -/
def quant (s : FVec F S1x1 .f32) (m : FVec F S128x128 .f32) : FVec F S128x128 .f32 :=
  minimumf (broadcast S128x128 (Scalar.ofBits .f32 0x42FE0000#32)) (maximumf (broadcast S128x128 (Scalar.ofBits .f32 0xC2FE0000#32))
    (roundeven (divf m (broadcastTo S128x128 s broadcasts_S1x1_S128x128))))

/-- The codes of a tile. -/
def codes (q : FVec F S128x128 .f32) : IVec S1x128x128 8 := shapeCast S1x128x128 (fptosi 8 q) shapeCasts_S128x128_S1x128x128

/-- The second loop's trip: the squares of the tile's update, summed over the row groups, are added. -/
def ssqStep (prev : FVec F S8x128 .f32) (s : FVec F S1x1 .f32) (q : FVec F S128x128 .f32) (g : Vec F S1x128x128 .bf16) : FVec F S8x128 .f32 :=
  have u := addf (extf .f32 (shapeCast S128x128 g shapeCasts_S1x128x128_S128x128) bitsLt_bf16_f32)
    (mulf (broadcast S128x128 (Scalar.ofBits .f32 0x3F733333#32)) (mulf q (broadcastTo S128x128 s broadcasts_S1x1_S128x128)))
  addf prev (multiReduction .add [0] S8x128 (shapeCast S16x8x128 (mulf u u) shapeCasts_S128x128_S16x8x128) 0x00000000#32
    reduces_S16x8x128_S8x128 (.inl rfl) rfl)

/-! ## The loops, over any tiles -/

section
variable (M : (k : Nat) → k < 56 → FVec F S128x128 .f32)

/-- The vector of scales after the first `n` trips. -/
def scales : (n : Nat) → n ≤ 56 → FVec F S1x56 .f32
  | 0, _ => broadcast S1x56 (Scalar.ofBits .f32 0x00000000#32)
  | n + 1, h => scaleStep n (scales n (Nat.le_of_succ_le h)) (M n h)

/-- The tiles of momentum stored to the scratch buffer, last first. -/
def stored : (n : Nat) → n ≤ 56 → List (View.Piece (Elt F) S128x7168 .f32)
  | 0, _ => []
  | n + 1, h => ⟨box2 n h, shapeCast S128x128 (M n h) shapeCasts_S128x128_S128x128⟩ :: stored n (Nat.le_of_succ_le h)

end

section
variable (sc : FVec F S1x56 .f32) (R : (k : Nat) → k < 56 → FVec F S128x128 .f32) (G : (k : Nat) → k < 56 → Vec F S1x128x128 .bf16)

/-- The tiles of codes stored by the second loop's first `n` trips, last first. -/
def coded : (n : Nat) → n ≤ 56 → List (View.Piece (Elt F) S1x128x7168 .i8)
  | 0, _ => []
  | n + 1, h => ⟨box3 n h, codes (quant (lane n h sc) (R n h))⟩ :: coded n (Nat.le_of_succ_le h)

/-- The sum of squares after the second loop's first `n` trips. -/
def ssq : (n : Nat) → n ≤ 56 → FVec F S8x128 .f32
  | 0, _ => broadcast S8x128 (Scalar.ofBits .f32 0x00000000#32)
  | n + 1, h => ssqStep (ssq n (Nat.le_of_succ_le h)) (lane n h sc) (quant (lane n h sc) (R n h)) (G n h)

end

/-! ## The words of the body's run -/

section
variable (c : Dev nD) (i : grid0.Coords) (arg2 : Memref sig .tc .smem S4x16x56 .f32) (harg2 : arg2.IsWhole)
  (arg3 : Memref sig .tc .vmem S1x128x7168 .bf16) (harg3 : arg3.IsWhole) (arg4 : Memref sig .tc .vmem S1x128x7168 .i8) (harg4 : arg4.IsWhole)
  (arg8 : Memref sig .tc .vmem S128x7168 .f32)
  (x0 : Vec F S4x16x56 .f32) (x1 : Vec F S1x128x7168 .bf16) (x2 : Vec F S1x128x7168 .i8)

/-- The old scale, the codes and the gradient of tile `k`, as the body loads them. -/
def oldScale (k : Nat) (h : k < 56) : Elt F .f32 :=
  View.readAt (Elt F) arg2.view (Rect.unit (s := S4x16x56) (scaleOff i k) S1x1x1.size (scaleInb i k h)).toLoadRect (harg2.unread x0) (Shape.Idx.first (show 0 < S1x1x1.numel by decide))

def oldCodes (k : Nat) (h : k < 56) : Vec F S1x128x128 .i8 := View.readAt (Elt F) arg4.view (box3 k h).toLoadRect (harg4.unread x2)

def grad (k : Nat) (h : k < 56) : Vec F S1x128x128 .bf16 := View.readAt (Elt F) arg3.view (box3 k h).toLoadRect (harg3.unread x1)

/-- Tile `k` of the momentum. -/
def momentum (k : Nat) (h : k < 56) : FVec F S128x128 .f32 :=
  k0_pay4 (oldScale i arg2 harg2 x0 k h) (oldCodes arg4 harg4 x2 k h) (grad arg3 harg3 x1 k h)

/-- The words of the run: the vector of scales, the scratch buffer, and a tile read back from it. -/
theorem word_scales : kernelRun0_A.sl.r_147 c i arg2 harg2 arg3 harg3 arg4 harg4 x0 x1 x2
    = scales (momentum i arg2 harg2 arg3 harg3 arg4 harg4 x0 x1 x2) 56 le_rfl := by
  rfl

theorem word_stored : kernelRun0_A.sl.HS0_56 c i arg2 harg2 arg3 harg3 arg4 harg4 x0 x1 x2
    = stored (momentum i arg2 harg2 arg3 harg3 arg4 harg4 x0 x1 x2) 56 le_rfl := by
  rfl

/-- Tile `k` of the scratch buffer, read back. -/
def back (k : Nat) (h : k < 56) : FVec F S128x128 .f32 :=
  arg8.view.readCov (kernelRun0_A.sl.HS0_56 c i arg2 harg2 arg3 harg3 arg4 harg4 x0 x1 x2) (box2 k h).toLoadRect

variable (arg5 : Memref sig .tc .vmem S1x128x7168 .i8) (harg5 : arg5.IsWhole) (arg6 : Memref sig .tc .vmem S1x1x1x56 .f32)
  (harg6 : arg6.IsWhole) (arg7 : Memref sig .tc .vmem S1x1x8x128 .f32) (harg7 : arg7.IsWhole) (harg8 : arg8.IsWhole)

theorem word_codes : (kernelRun0_A c i arg2 harg2 arg3 harg3 arg4 harg4 arg5 harg5 arg6 harg6 arg7 harg7 arg8 harg8 x0 x1 x2).1
    = coded (kernelRun0_A.sl.r_147 c i arg2 harg2 arg3 harg3 arg4 harg4 x0 x1 x2)
        (back c i arg2 harg2 arg3 harg3 arg4 harg4 arg8 x0 x1 x2) 56 le_rfl := by
  rfl

theorem word_newScales : (kernelRun0_A c i arg2 harg2 arg3 harg3 arg4 harg4 arg5 harg5 arg6 harg6 arg7 harg7 arg8 harg8 x0 x1 x2).2.1
    = [⟨Rect.unit ![0, 0, 0, 0] S1x1x1x56.size inb_S1x1x1x56_S1x1x1x56_0_0_0_0, shapeCast S1x1x1x56
        (kernelRun0_A.sl.r_147 c i arg2 harg2 arg3 harg3 arg4 harg4 x0 x1 x2) shapeCasts_S1x56_S1x1x1x56⟩] := by
  rfl

theorem word_ssq : (kernelRun0_A c i arg2 harg2 arg3 harg3 arg4 harg4 arg5 harg5 arg6 harg6 arg7 harg7 arg8 harg8 x0 x1 x2).2.2.1
    = [⟨Rect.unit ![0, 0, 0, 0] S1x1x8x128.size inb_S1x1x8x128_S1x1x8x128_0_0_0_0, shapeCast S1x1x8x128
        (ssq (kernelRun0_A.sl.r_147 c i arg2 harg2 arg3 harg3 arg4 harg4 x0 x1 x2)
          (back c i arg2 harg2 arg3 harg3 arg4 harg4 arg8 x0 x1 x2) (grad arg3 harg3 x1) 56 le_rfl) shapeCasts_S8x128_S1x1x8x128⟩] := by
  rfl

end

end Cert.Proof.Momentum

end
-- ==== Proof.Momentum.Math.lean ====
/-
  Hand-written, untrusted. The mathematics of the momentum step over the extended reals, free of either program: the absolute
  maximum of a block of 128 by 128 entries, its scale, its codes, and what one reads back from a code.
-/
module

public import Idealize.ShloMosaic.Lib.Pipeline.ValueKit
public import Idealize.ShloMosaic.PureOps.Ideal.Laws

@[expose] public section

set_option maxRecDepth 16384

noncomputable section

namespace Cert.Proof.Momentum

open Idealize.ShloMosaic

/-- The constants of the step: the momentum's factor (the f32 nearest to 0.95), the largest code and the smallest. -/
abbrev factor : EReal := Ideal.ofBits .f32 1064514355#32
abbrev codeMax : EReal := Ideal.ofBits .f32 1123942400#32
abbrev codeMin : EReal := Ideal.ofBits .f32 3271426048#32

/-- The new momentum of one entry from its old code, its block's old scale and its gradient. -/
def momOf (q : BitVec 8) (s g : EReal) : EReal := factor * (FloatOps.sitofp (F := Ideal) .f32 q * s) + g

/-- The absolute maximum of a block. -/
def absMax (A : Fin 128 → Fin 128 → EReal) : EReal :=
  (Finset.univ : Finset (Fin 128 × Fin 128)).fold max (Ideal.ofBits .f32 4286578688#32)
    fun k => FloatOps.absf (F := Ideal) (φ := .f32) (A k.1 k.2)

/-- The scale of a block. -/
def scaleOf (A : Fin 128 → Fin 128 → EReal) : EReal := if absMax A = 0 then 1 else Ideal.div (absMax A) codeMax

/-- The quantised entry, as a number. -/
def quantOf (x s : EReal) : EReal := min codeMax (max codeMin (Ideal.liftRound Ideal.roundHalfEven (Ideal.div x s)))

/-- The update of one entry from its gradient and the momentum that its code stands for. -/
def updOf (g q s : EReal) : EReal := g + factor * (q * s)

/-- The maximum over a block is the maximum over its columns of the maximum over each column. -/
theorem absMax_eq (A : Fin 128 → Fin 128 → EReal) (b : EReal) :
    (Finset.univ : Finset (Fin 128)).fold max b (fun y => (Finset.univ : Finset (Fin 128)).fold max b fun x => A x y)
      = (Finset.univ : Finset (Fin 128 × Fin 128)).fold max b fun k => A k.1 k.2 := by
  refine eq_of_forall_ge_iff fun c => ?_
  simp only [Finset.fold_max_le, Finset.mem_univ, true_implies, forall_and, forall_const, Prod.forall]
  constructor
  · rintro ⟨h, -, h'⟩
    exact ⟨h, fun x y => h' y x⟩
  · rintro ⟨h, h'⟩
    exact ⟨h, h, fun y x => h' x y⟩

theorem codeMax_eq : codeMax = ((127 : ℤ) : ℝ) := by
  simp [codeMax, Ideal.ofBits, Ideal.ieee, -EReal.coe_mul]; norm_num

theorem codeMin_eq : codeMin = ((-127 : ℤ) : ℝ) := by
  simp [codeMin, Ideal.ofBits, Ideal.ieee, -EReal.coe_mul]; norm_num

/-- A quantised entry is an integer from -127 to 127. -/
theorem quantOf_int (x s : EReal) : ∃ n : ℤ, -127 ≤ n ∧ n ≤ 127 ∧ quantOf x s = ((n : ℝ) : EReal) := by
  unfold quantOf
  rw [codeMax_eq, codeMin_eq]
  generalize Ideal.div x s = z
  have key : ∀ n : ℤ, ∃ k : ℤ, -127 ≤ k ∧ k ≤ 127 ∧
      min (((127 : ℤ) : ℝ) : EReal) (max (((-127 : ℤ) : ℝ) : EReal) ((n : ℝ) : EReal)) = ((k : ℝ) : EReal) := fun n =>
    ⟨min 127 (max (-127) n), by omega, by omega, by
      rw [Int.cast_min, Int.cast_max, EReal.coe_strictMono.monotone.map_min, EReal.coe_strictMono.monotone.map_max]⟩
  induction z using EReal.rec with
  | bot =>
    refine ⟨-127, by omega, by omega, ?_⟩
    show min _ (max _ (⊥ : EReal)) = _
    rw [max_eq_left bot_le, min_eq_right (EReal.coe_le_coe_iff.mpr (by norm_num))]
  | top =>
    refine ⟨127, by omega, by omega, ?_⟩
    show min _ (max _ (⊤ : EReal)) = _
    rw [max_eq_right le_top, min_eq_left le_top]
  | coe r => exact key _

/-- So a quantised entry is unchanged by being stored as an 8-bit integer. -/
theorem sitofp_fptosi_quantOf (x s : EReal) :
    FloatOps.sitofp (F := Ideal) .f32 (FloatOps.fptosi (F := Ideal) (φ := .f32) 8 (quantOf x s)) = quantOf x s := by
  obtain ⟨n, h1, h2, e⟩ := quantOf_int x s
  rw [e]
  show (((Ideal.fptosi 8 ((n : ℝ) : EReal)).toInt : ℝ) : EReal) = _
  have ht : (if (0 : ℝ) ≤ (n : ℝ) then ⌊(n : ℝ)⌋ else ⌈(n : ℝ)⌉) = n := by simp
  have : (Ideal.fptosi 8 ((n : ℝ) : EReal)).toInt = n := by
    unfold Ideal.fptosi
    rw [Ideal.toIntClamped_coe, ht, BitVec.toInt_ofInt]
    norm_num
    rw [max_eq_right (by rw [min_eq_right] <;> omega), min_eq_right (by omega)]
    exact Int.bmod_eq_of_le (by omega) (by omega)
  rw [this]

end Cert.Proof.Momentum

end
-- ==== Proof.Momentum.Point.lean ====
/-
  Hand-written, untrusted. One grid point of the momentum kernel over the extended reals: each tile's momentum, its scale, its codes
  and the point's sum of squares, entry by entry, in the terms of Math.lean.
-/
module

public import proofs.«01_k».proof.Proof.Momentum.Chain
public import proofs.«01_k».proof.Proof.Momentum.Math
public import Idealize.ShloMosaic.Lib.Pipeline.ReadBack

@[expose] public section

set_option maxRecDepth 16384

noncomputable section

namespace Cert.Proof.Momentum

open Idealize.ShloMosaic Idealize.ShloMosaic.TcCoe
open Cert.MomentumIdeal Cert.MomentumIdeal.Gen

/-! ## One trip of each loop -/

theorem tileMax_apply (m : FVec Ideal S128x128 .f32) (y : S1x1.Idx) : tileMax m y = absMax fun p q => m (ix2 p q) := by
  pointwise [tileMax]
  exact absMax_eq (fun p q => FloatOps.absf (F := Ideal) (φ := .f32) (m (ix2 p q))) _

theorem tileScale_apply (m : FVec Ideal S128x128 .f32) (y : S1x1.Idx) : tileScale m y = scaleOf fun p q => m (ix2 p q) := by
  pointwise [tileScale]
  rw [tileMax_apply]
  rfl

theorem scaleStep_apply (k : Nat) (hk : k < 56) (prev : FVec Ideal S1x56 .f32) (m : FVec Ideal S128x128 .f32) (y : S1x56.Idx) :
    scaleStep k prev m y = if (y 1 : ℕ) = k then scaleOf (fun p q => m (ix2 p q)) else prev y := by
  pointwise [scaleStep]
  rw [tileScale_apply]
  have hy : (y 1 : ℕ) < 56 := (y 1).isLt
  have e : (BitVec.ofNat 32 (y 1 : ℕ) = BitVec.ofNat 32 k) ↔ (y 1 : ℕ) = k := by
    constructor
    · intro h
      have := congrArg BitVec.toNat h
      simp only [BitVec.toNat_ofNat] at this
      omega
    · intro h; rw [h]
  by_cases h : (y 1 : ℕ) = k
  · simp [Scalar.select, IntOp.cmpi, e, h]
  · have hb : (BitVec.ofNat 32 (y 1 : ℕ) == BitVec.ofNat 32 k) = false := beq_false_of_ne fun h' => h (e.mp h')
    rw [if_neg h]
    simp only [Scalar.select, IntOp.cmpi, hb]
    rfl

/-- After the first loop, lane `l` of the vector of scales is the scale of tile `l`. -/
theorem scales_apply (M : (k : Nat) → k < 56 → FVec Ideal S128x128 .f32) : ∀ (n : Nat) (h : n ≤ 56) (y : S1x56.Idx) (hy : (y 1 : ℕ) < n),
    scales M n h y = scaleOf fun p q => M (y 1 : ℕ) (lt_of_lt_of_le hy h) (ix2 p q)
  | 0, _, _, hy => absurd hy (Nat.not_lt_zero _)
  | n + 1, h, y, hy => by
    rw [scales, scaleStep_apply _ h]
    split_ifs with e
    · subst e; rfl
    · exact scales_apply M n (Nat.le_of_succ_le h) y (by omega)

theorem lane_apply (k : Nat) (hk : k < 56) (sc : FVec Ideal S1x56 .f32) (y : S1x1.Idx) : lane k hk sc y = sc (ix2 0 ⟨k, hk⟩) := by
  pointwise [lane]

theorem quant_apply (s : FVec Ideal S1x1 .f32) (m : FVec Ideal S128x128 .f32) (y : S128x128.Idx) :
    quant s m y = quantOf (m y) (s (ix2 0 0)) := by
  pointwise [quant]
  rfl

theorem codes_apply (q : FVec Ideal S128x128 .f32) (y : S1x128x128.Idx) :
    codes q y = FloatOps.fptosi (F := Ideal) (φ := .f32) 8 (q (ix2 (y 1) (y 2))) := by
  pointwise [codes]

theorem ssqStep_apply (prev : FVec Ideal S8x128 .f32) (s : FVec Ideal S1x1 .f32) (q : FVec Ideal S128x128 .f32) (g : Vec Ideal S1x128x128 .bf16)
    (y : S8x128.Idx) :
    ssqStep prev s q g y = (prev y : EReal) + ∑ x : Fin 16,
      (updOf (g (ix3 0 ⟨x * 8 + (y 0 : ℕ), by have := (y 0).isLt; have : S8x128.size 0 = 8 := rfl; omega⟩ (y 1)))
          (q (ix2 ⟨x * 8 + (y 0 : ℕ), by have := (y 0).isLt; have : S8x128.size 0 = 8 := rfl; omega⟩ (y 1))) (s (ix2 0 0)) *
        updOf (g (ix3 0 ⟨x * 8 + (y 0 : ℕ), by have := (y 0).isLt; have : S8x128.size 0 = 8 := rfl; omega⟩ (y 1)))
          (q (ix2 ⟨x * 8 + (y 0 : ℕ), by have := (y 0).isLt; have : S8x128.size 0 = 8 := rfl; omega⟩ (y 1))) (s (ix2 0 0))) := by
  pointwise [ssqStep]
  rfl

/-! ## The scratch buffer read back -/

theorem box2_disjoint (k k' : Nat) (h : k < 56) (h' : k' < 56) (hne : k ≠ k') : LoadRect.disj (box2 k h) (box2 k' h').toLoadRect = true := by
  refine decide_eq_true ⟨1, ?_⟩
  simp [Rect.unit, S128x128]
  omega

theorem readCov_stored (M : (k : Nat) → k < 56 → FVec Ideal S128x128 .f32) (v : View sig .tc .vmem S128x7168 .f32) (k : Nat) (hk : k < 56) :
    ∀ (n : Nat) (h : n ≤ 56), k < n → v.readCov (stored M n h) (box2 k hk).toLoadRect = shapeCast S128x128 (M k hk) shapeCasts_S128x128_S128x128
  | 0, _, hn => absurd hn (Nat.not_lt_zero _)
  | n + 1, h, hn => by
    rw [stored]
    by_cases e : n = k
    · subst e; exact View.readCov_cons_toLoadRect v _ _ _
    · rw [View.readCov_skip _ _ _ _ _ (box2_disjoint n k h hk e)]
      exact readCov_stored M v k hk n (Nat.le_of_succ_le h) (by omega)

/-- The sum of squares after `n` trips of the second loop. -/
theorem ssq_apply (sc : FVec Ideal S1x56 .f32) (R : (k : Nat) → k < 56 → FVec Ideal S128x128 .f32)
    (G : (k : Nat) → k < 56 → Vec Ideal S1x128x128 .bf16) (y : S8x128.Idx) (T : Fin 56 → EReal)
    (hT : ∀ (k : Nat) (h : k < 56) (prev : FVec Ideal S8x128 .f32),
      ssqStep prev (lane k h sc) (quant (lane k h sc) (R k h)) (G k h) y = (prev y : EReal) + T ⟨k, h⟩) :
    ∀ (n : Nat) (h : n ≤ 56), ssq sc R G n h y = ∑ k : Fin n, T (k.castLE h)
  | 0, _ => by simp [ssq, broadcast]
  | n + 1, h => by
    rw [ssq, hT, ssq_apply sc R G y T hT n (Nat.le_of_succ_le h), Fin.sum_univ_castSucc]
    rfl

end Cert.Proof.Momentum

end
-- ==== Proof.Momentum.Out.lean ====
/-
  Hand-written, untrusted. The three output blocks of one grid point of the momentum kernel, entry by entry, from the point's blocks
  of the gradient and of the old codes and from the old scales.
-/
module

public import proofs.«01_k».proof.Proof.Momentum.Point
public import Idealize.ShloMosaic.Lib.WholeRead

@[expose] public section

set_option maxRecDepth 16384

noncomputable section

namespace Cert.Proof.Momentum

open Idealize.ShloMosaic Idealize.ShloMosaic.TcCoe
open Cert.MomentumIdeal Cert.MomentumIdeal.Gen

/-- The new momentum of tile `k` of a grid point's block, at row `p` and column `q` of the tile. -/
def tileMom (i : grid0.Coords) (x0 : Vec Ideal S4x16x56 .f32) (x1 : Vec Ideal S1x128x7168 .bf16) (x2 : Vec Ideal S1x128x7168 .i8)
    (k : Fin 56) (p q : Fin 128) : EReal :=
  momOf (x2 (ix3 0 p ⟨128 * (k : ℕ) + (q : ℕ), by omega⟩)) (x0 (ix3 (i 0) (i 1) k)) (x1 (ix3 0 p ⟨128 * (k : ℕ) + (q : ℕ), by omega⟩))

section
variable (c : Dev nD) (i : grid0.Coords) (arg2 : Memref sig .tc .smem S4x16x56 .f32) (harg2 : arg2.IsWhole)
  (arg3 : Memref sig .tc .vmem S1x128x7168 .bf16) (harg3 : arg3.IsWhole) (arg4 : Memref sig .tc .vmem S1x128x7168 .i8) (harg4 : arg4.IsWhole)
  (arg8 : Memref sig .tc .vmem S128x7168 .f32)
  (x0 : Vec Ideal S4x16x56 .f32) (x1 : Vec Ideal S1x128x7168 .bf16) (x2 : Vec Ideal S1x128x7168 .i8)

theorem oldScale_apply (k : Nat) (h : k < 56) : oldScale i arg2 harg2 x0 k h = x0 (ix3 (i 0) (i 1) ⟨k, h⟩) := by
  unfold oldScale
  rw [Memref.IsWhole.readAt_unread harg2]
  congr 1
  have e := scaleOff_eq i k
  funext a
  apply Fin.ext
  have := congrFun e a
  fin_cases a <;> simpa [LoadRect.idx, Rect.unit] using this

theorem oldCodes_apply (k : Nat) (h : k < 56) (y : S1x128x128.Idx) :
    oldCodes arg4 harg4 x2 k h y = x2 (ix3 0 (y 1) ⟨128 * k + (y 2 : ℕ), by have : (y 2 : ℕ) < 128 := (y 2).isLt; omega⟩) := by
  unfold oldCodes
  rw [Memref.IsWhole.readAt_unread harg4]
  congr 1
  funext a
  apply Fin.ext
  have h0 : (y 0 : ℕ) < 1 := (y 0).isLt
  fin_cases a <;> simp [LoadRect.idx, Rect.unit]

theorem grad_apply (k : Nat) (h : k < 56) (y : S1x128x128.Idx) :
    grad arg3 harg3 x1 k h y = x1 (ix3 0 (y 1) ⟨128 * k + (y 2 : ℕ), by have : (y 2 : ℕ) < 128 := (y 2).isLt; omega⟩) := by
  unfold grad
  rw [Memref.IsWhole.readAt_unread harg3]
  congr 1
  funext a
  apply Fin.ext
  have h0 : (y 0 : ℕ) < 1 := (y 0).isLt
  fin_cases a <;> simp [LoadRect.idx, Rect.unit]

theorem momentum_apply (k : Nat) (h : k < 56) (y : S128x128.Idx) :
    momentum i arg2 harg2 arg3 harg3 arg4 harg4 x0 x1 x2 k h y = tileMom i x0 x1 x2 ⟨k, h⟩ (y 0) (y 1) := by
  unfold momentum
  pointwise [k0_pay4]
  rw [oldScale_apply, oldCodes_apply, grad_apply]
  rfl

theorem back_apply (k : Nat) (h : k < 56) (y : S128x128.Idx) :
    back c i arg2 harg2 arg3 harg3 arg4 harg4 arg8 x0 x1 x2 k h y = tileMom i x0 x1 x2 ⟨k, h⟩ (y 0) (y 1) := by
  unfold back
  rw [word_stored, readCov_stored _ _ k h 56 le_rfl h]
  rw [← momentum_apply i arg2 harg2 arg3 harg3 arg4 harg4 x0 x1 x2 k h y]
  generalize momentum i arg2 harg2 arg3 harg3 arg4 harg4 x0 x1 x2 k h = m
  pointwise

theorem newScale_apply (y : S1x56.Idx) : kernelRun0_A.sl.r_147 c i arg2 harg2 arg3 harg3 arg4 harg4 x0 x1 x2 y
    = scaleOf (tileMom i x0 x1 x2 (y 1)) := by
  rw [word_scales, scales_apply _ 56 le_rfl y (y 1).isLt]
  congr 1
  funext p q
  rw [momentum_apply]
  rfl

/-- The quantised tile `k`, entry by entry. -/
theorem tileQuant_apply (k : Nat) (h : k < 56) (y : S128x128.Idx) :
    quant (lane k h (kernelRun0_A.sl.r_147 c i arg2 harg2 arg3 harg3 arg4 harg4 x0 x1 x2))
      (back c i arg2 harg2 arg3 harg3 arg4 harg4 arg8 x0 x1 x2 k h) y
    = quantOf (tileMom i x0 x1 x2 ⟨k, h⟩ (y 0) (y 1)) (scaleOf (tileMom i x0 x1 x2 ⟨k, h⟩)) := by
  rw [quant_apply, lane_apply, newScale_apply, back_apply]
  rfl

theorem mem_coded {F : FTy → Type} [FloatOps F] (sc : FVec F S1x56 .f32) (R : (k : Nat) → k < 56 → FVec F S128x128 .f32) :
    ∀ (n : Nat) (h : n ≤ 56) (p : View.Piece (Elt F) S1x128x7168 .i8), p ∈ coded sc R n h →
      ∃ (k : Nat) (hk : k < 56), p = ⟨box3 k hk, codes (quant (lane k hk sc) (R k hk))⟩
  | 0, _, p, hp => absurd hp List.not_mem_nil
  | n + 1, h, p, hp => by
    rcases List.mem_cons.mp hp with rfl | hp
    · exact ⟨n, h, rfl⟩
    · exact mem_coded sc R n (Nat.le_of_succ_le h) p hp

variable (arg5 : Memref sig .tc .vmem S1x128x7168 .i8) (harg5 : arg5.IsWhole) (arg6 : Memref sig .tc .vmem S1x1x1x56 .f32)
  (harg6 : arg6.IsWhole) (arg7 : Memref sig .tc .vmem S1x1x8x128 .f32) (harg7 : arg7.IsWhole) (harg8 : arg8.IsWhole)

/-- The code at an entry of a grid point's block. -/
def blockCode (y : S1x128x7168.Idx) : BitVec 8 :=
  FloatOps.fptosi (F := Ideal) (φ := .f32) 8
    (quantOf (tileMom i x0 x1 x2 ⟨(y 2 : ℕ) / 128, by have : (y 2 : ℕ) < 7168 := (y 2).isLt; omega⟩ (y 1) ⟨(y 2 : ℕ) % 128, by omega⟩)
      (scaleOf (tileMom i x0 x1 x2 ⟨(y 2 : ℕ) / 128, by have : (y 2 : ℕ) < 7168 := (y 2).isLt; omega⟩)))

theorem out3_apply (y : S1x128x7168.Idx) :
    out0_A_3 c i arg2 harg2 arg3 harg3 arg4 harg4 arg5 harg5 arg6 harg6 arg7 harg7 arg8 harg8 x0 x1 x2 y = blockCode i x0 x1 x2 y := by
  unfold out0_A_3
  rw [View.read_writes_junk_eq_canon]
  refine View.canon_apply_of_pieces (blockCode i x0 x1 x2) _ (fun p hp x => ?_) y
    (cover0_A_3 c i arg2 harg2 arg3 harg3 arg4 harg4 arg5 harg5 arg6 harg6 arg7 harg7 arg8 harg8 x0 x1 x2 y)
  rw [word_codes] at hp
  obtain ⟨k, hk, rfl⟩ := mem_coded _ _ _ _ p hp
  show codes _ x = _
  rw [codes_apply, tileQuant_apply]
  have h1 : (x 1 : ℕ) < 128 := (x 1).isLt
  have h2 : (x 2 : ℕ) < 128 := (x 2).isLt
  unfold blockCode
  have e1 : ((box3 k hk).emb x 1 : ℕ) = (x 1 : ℕ) := by
    rw [Rect.emb_apply]
    show 0 + 1 * (x 1 : ℕ) = _
    omega
  have e2 : ((box3 k hk).emb x 2 : ℕ) = 128 * k + (x 2 : ℕ) := by
    rw [Rect.emb_apply]
    show 128 * k + 1 * (x 2 : ℕ) = _
    omega
  have f1 : (box3 k hk).emb x 1 = x 1 := Fin.ext e1
  have f2 : (⟨((box3 k hk).emb x 2 : ℕ) / 128, by omega⟩ : Fin 56) = ⟨k, hk⟩ := Fin.ext (show ((box3 k hk).emb x 2 : ℕ) / 128 = k by omega)
  have f3 : (⟨((box3 k hk).emb x 2 : ℕ) % 128, by omega⟩ : Fin 128) = x 2 := Fin.ext (show ((box3 k hk).emb x 2 : ℕ) % 128 = (x 2 : ℕ) by omega)
  rw [f1, f2, f3]
  rfl

theorem out4_apply (y : S1x1x1x56.Idx) :
    out0_A_4 c i arg2 harg2 arg3 harg3 arg4 harg4 arg5 harg5 arg6 harg6 arg7 harg7 arg8 harg8 x0 x1 x2 y
      = scaleOf (tileMom i x0 x1 x2 (y 3)) := by
  unfold out0_A_4
  rw [View.read_writes_junk_eq_canon, word_newScales, View.canon_cons_unit_lit' _ _ _ (by decide)]
  have e := newScale_apply c i arg2 harg2 arg3 harg3 arg4 harg4 x0 x1 x2 (ix2 0 (y 3))
  generalize kernelRun0_A.sl.r_147 c i arg2 harg2 arg3 harg3 arg4 harg4 x0 x1 x2 = sc at e ⊢
  pointwise
  exact e

/-- The update at row `p` and column `q` of tile `k` of a grid point's block. -/
def tileUpd (k : Fin 56) (p q : Fin 128) : EReal :=
  updOf (x1 (ix3 0 p ⟨128 * (k : ℕ) + (q : ℕ), by omega⟩)) (quantOf (tileMom i x0 x1 x2 k p q) (scaleOf (tileMom i x0 x1 x2 k)))
    (scaleOf (tileMom i x0 x1 x2 k))

theorem out5_apply (y : S1x1x8x128.Idx) :
    out0_A_5 c i arg2 harg2 arg3 harg3 arg4 harg4 arg5 harg5 arg6 harg6 arg7 harg7 arg8 harg8 x0 x1 x2 y
      = ∑ k : Fin 56, ∑ x : Fin 16,
          (tileUpd i x0 x1 x2 k ⟨(x : ℕ) * 8 + (y 2 : ℕ), by have : (y 2 : ℕ) < 8 := (y 2).isLt; omega⟩ (y 3) *
            tileUpd i x0 x1 x2 k ⟨(x : ℕ) * 8 + (y 2 : ℕ), by have : (y 2 : ℕ) < 8 := (y 2).isLt; omega⟩ (y 3)) := by
  unfold out0_A_5
  rw [View.read_writes_junk_eq_canon, word_ssq, View.canon_cons_unit_lit' _ _ _ (by decide)]
  have e := ssq_apply (kernelRun0_A.sl.r_147 c i arg2 harg2 arg3 harg3 arg4 harg4 x0 x1 x2)
    (back c i arg2 harg2 arg3 harg3 arg4 harg4 arg8 x0 x1 x2) (grad arg3 harg3 x1) (ix2 (y 2) (y 3))
    (fun k => ∑ x : Fin 16,
          (tileUpd i x0 x1 x2 k ⟨(x : ℕ) * 8 + (y 2 : ℕ), by have : (y 2 : ℕ) < 8 := (y 2).isLt; omega⟩ (y 3) *
            tileUpd i x0 x1 x2 k ⟨(x : ℕ) * 8 + (y 2 : ℕ), by have : (y 2 : ℕ) < 8 := (y 2).isLt; omega⟩ (y 3)))
    (fun k h prev => by
      rw [ssqStep_apply]
      simp only [tileQuant_apply, lane_apply, newScale_apply, grad_apply]
      rfl) 56 le_rfl
  generalize ssq (kernelRun0_A.sl.r_147 c i arg2 harg2 arg3 harg3 arg4 harg4 x0 x1 x2) _ _ 56 le_rfl = S at e ⊢
  pointwise
  exact e

end

end Cert.Proof.Momentum

end
-- ==== Proof.Momentum.Ref.lean ====
/-
  Hand-written, untrusted. The momentum reference's payloads, entry by entry: its new momentum, its blocks' absolute maxima, scales and
  codes, its update, and the partial sums of the update's squares.
-/
module

public import proofs.«01_k».proof.Proof.Gen.MomentumRefIdeal.Value
public import proofs.«01_k».proof.Proof.Momentum.Math
public import Idealize.ShloMosaic.Lib.Pipeline.ValueKit
public import Idealize.ShloMosaic.PureOps.Ideal.Laws

@[expose] public section

set_option maxRecDepth 16384

noncomputable section

namespace Cert.Proof.Momentum.Ref

open Idealize.ShloMosaic Idealize.ShloMosaic.TcCoe
open Cert.MomentumRefIdeal Cert.MomentumRefIdeal.Gen

variable {F : FTy → Type} [FloatOps F]

/-- The absolute maximum of each block of 128 by 128 entries. -/
def absMax (m : FVec F S4x16x128x56x128 .f32) : FVec F S4x16x56 .f32 :=
  multiReduction .maximumf [2, 4] S4x16x56 (absf m) 0xFF800000#32 reduces_S4x16x128x56x128_S4x16x56 (.inl rfl) rfl

/-- The scales of the blocks from their absolute maxima. -/
def scale (a : FVec F S4x16x56 .f32) : FVec F S4x16x56 .f32 :=
  select (cmpf .oeq a (broadcast S4x16x56 (Scalar.ofBits .f32 0x00000000#32))) (broadcast S4x16x56 (Scalar.ofBits .f32 0x3F800000#32))
    (divf a (broadcast S4x16x56 (Scalar.ofBits .f32 0x42FE0000#32)))

/-- The codes of the momentum at the blocks' scales. -/
def codes (m : FVec F S4x16x128x56x128 .f32) (s : FVec F S4x16x56 .f32) : IVec S4x2048x7168 8 :=
  shapeCast S4x2048x7168 (fptosi 8 (minimumf (broadcast S4x16x128x56x128 (Scalar.ofBits .f32 0x42FE0000#32))
    (maximumf (broadcast S4x16x128x56x128 (Scalar.ofBits .f32 0xC2FE0000#32))
      (roundeven (divf m (broadcastTo S4x16x128x56x128 (shapeCast S4x16x1x56x1 s shapeCasts_S4x16x56_S4x16x1x56x1)
        broadcasts_S4x16x1x56x1_S4x16x128x56x128)))))) shapeCasts_S4x16x128x56x128_S4x2048x7168

/-- The update from the gradient and the momentum that the codes and the scales stand for. -/
def update (g : FVec F S4x2048x7168 .bf16) (q : IVec S4x2048x7168 8) (s : FVec F S4x16x56 .f32) : FVec F S4x2048x7168 .f32 :=
  addf (extf .f32 g bitsLt_bf16_f32) (mulf (broadcast S4x2048x7168 (Scalar.ofBits .f32 0x3F733333#32))
    (shapeCast S4x2048x7168 (mulf (shapeCast S4x16x128x56x128 (sitofp .f32 q) shapeCasts_S4x2048x7168_S4x16x128x56x128)
      (broadcastTo S4x16x128x56x128 (shapeCast S4x16x1x56x1 s shapeCasts_S4x16x56_S4x16x1x56x1)
        broadcasts_S4x16x1x56x1_S4x16x128x56x128)) shapeCasts_S4x16x128x56x128_S4x2048x7168))

/-- The partial sums of the update's squares. -/
def squares (u : FVec F S4x2048x7168 .f32) : FVec F S4x16x8x128 .f32 :=
  multiReduction .add [2, 4] S4x16x8x128 (shapeCast S4x16x16x8x56x128 (mulf u u) shapeCasts_S4x2048x7168_S4x16x16x8x56x128)
    0x00000000#32 reduces_S4x16x16x8x56x128_S4x16x8x128 (.inl rfl) rfl

variable (g : Vec F S4x2048x7168 .bf16) (co : Vec F S4x2048x7168 .i8) (s : Vec F S4x16x56 .f32)

theorem pay5_eq : k0_pay5 g co s = scale (absMax (k0_pay4 g co s)) := rfl
theorem pay6_eq : k0_pay6 g co s = codes (k0_pay4 g co s) (k0_pay5 g co s) := rfl
theorem pay7_eq : k0_pay7 g co s = update g (k0_pay6 g co s) (k0_pay5 g co s) := rfl
theorem pay2_eq (u : FVec F S4x2048x7168 .f32) : k0_pay2 u = squares u := rfl

/-- The new momentum at row `p` and column `q` of block `r`, `k` of array `b`. -/
def mom (g : Vec Ideal S4x2048x7168 .bf16) (co : Vec Ideal S4x2048x7168 .i8) (s : Vec Ideal S4x16x56 .f32)
    (b : Fin 4) (r : Fin 16) (k : Fin 56) (p q : Fin 128) : EReal :=
  momOf (co (ix3 b ⟨(r : ℕ) * 128 + (p : ℕ), by omega⟩ ⟨(k : ℕ) * 128 + (q : ℕ), by omega⟩)) (s (ix3 b r k))
    (g (ix3 b ⟨(r : ℕ) * 128 + (p : ℕ), by omega⟩ ⟨(k : ℕ) * 128 + (q : ℕ), by omega⟩))

/-- The update there. -/
def upd (g : Vec Ideal S4x2048x7168 .bf16) (co : Vec Ideal S4x2048x7168 .i8) (s : Vec Ideal S4x16x56 .f32)
    (b : Fin 4) (r : Fin 16) (k : Fin 56) (p q : Fin 128) : EReal :=
  updOf (g (ix3 b ⟨(r : ℕ) * 128 + (p : ℕ), by omega⟩ ⟨(k : ℕ) * 128 + (q : ℕ), by omega⟩))
    (quantOf (mom g co s b r k p q) (scaleOf (mom g co s b r k))) (scaleOf (mom g co s b r k))

theorem mom_apply (g : Vec Ideal S4x2048x7168 .bf16) (co : Vec Ideal S4x2048x7168 .i8) (s : Vec Ideal S4x16x56 .f32)
    (y : S4x16x128x56x128.Idx) : k0_pay4 g co s y = mom g co s (y 0) (y 1) (y 3) (y 2) (y 4) := by
  pointwise [k0_pay4, k0_pay3]
  rfl

theorem fiber_a24 (j : S4x16x56.Idx) (i : S4x16x128x56x128.Idx) :
    reduces_S4x16x128x56x128_S4x16x56.drop i = j ↔ ∃ k : Fin 128 × Fin 128, (ix5 (j 0) (j 1) k.1 (j 2) k.2 : S4x16x128x56x128.Idx) = i := by
  constructor
  · intro e
    refine ⟨(i 2, i 4), ?_⟩
    funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
  · rintro ⟨k, rfl⟩
    funext b
    apply Fin.ext
    match b with
    | ⟨0, _⟩ => rfl
    | ⟨1, _⟩ => rfl
    | ⟨2, _⟩ => rfl

theorem fiber_r6_a24 (j : S4x16x8x128.Idx) (i : S4x16x16x8x56x128.Idx) :
    reduces_S4x16x16x8x56x128_S4x16x8x128.drop i = j ↔ ∃ k : Fin 16 × Fin 56, (ix6 (j 0) (j 1) k.1 (j 2) k.2 (j 3) : S4x16x16x8x56x128.Idx) = i := by
  constructor
  · intro e
    refine ⟨(i 2, i 4), ?_⟩
    funext a; apply Fin.ext
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
    | ⟨5, _⟩ => exact (congrArg Fin.val (congrFun e 3)).symm
  · rintro ⟨k, rfl⟩
    funext b
    apply Fin.ext
    match b with
    | ⟨0, _⟩ => rfl
    | ⟨1, _⟩ => rfl
    | ⟨2, _⟩ => rfl
    | ⟨3, _⟩ => rfl

theorem absMax_apply (m : FVec Ideal S4x16x128x56x128 .f32) (y : S4x16x56.Idx) :
    absMax m y = Momentum.absMax fun p q => m (ix5 (y 0) (y 1) p (y 2) q) := by
  unfold absMax
  refine (multiReduction_maximumf_eq_fold _ _ _ _ _ _).trans ?_
  exact Finset.fold_filter_eq_fold_of_fiber _ _ (fun k : Fin 128 × Fin 128 => (ix5 (y 0) (y 1) k.1 (y 2) k.2 : S4x16x128x56x128.Idx))
    (fun _ _ e => Prod.ext (congrFun e 2) (congrFun e 4)) (fiber_a24 y) _ _

theorem scale_apply (a : FVec Ideal S4x16x56 .f32) (y : S4x16x56.Idx) : scale a y = if a y = 0 then 1 else Ideal.div (a y) codeMax := by
  pointwise [scale]

theorem codes_apply (m : FVec Ideal S4x16x128x56x128 .f32) (s : FVec Ideal S4x16x56 .f32) (y : S4x2048x7168.Idx) :
    codes m s y = FloatOps.fptosi (F := Ideal) (φ := .f32) 8 (quantOf
      (m (ix5 (y 0) ⟨(y 1 : ℕ) / 128, by have : (y 1 : ℕ) < 2048 := (y 1).isLt; omega⟩ ⟨(y 1 : ℕ) % 128, by omega⟩
        ⟨(y 2 : ℕ) / 128, by have : (y 2 : ℕ) < 7168 := (y 2).isLt; omega⟩ ⟨(y 2 : ℕ) % 128, by omega⟩))
      (s (ix3 (y 0) ⟨(y 1 : ℕ) / 128, by have : (y 1 : ℕ) < 2048 := (y 1).isLt; omega⟩
        ⟨(y 2 : ℕ) / 128, by have : (y 2 : ℕ) < 7168 := (y 2).isLt; omega⟩))) := by
  pointwise [codes]
  rfl

theorem update_apply (g : FVec Ideal S4x2048x7168 .bf16) (q : IVec S4x2048x7168 8) (s : FVec Ideal S4x16x56 .f32) (y : S4x2048x7168.Idx) :
    update g q s y = updOf (g y) (FloatOps.sitofp (F := Ideal) .f32 (q y))
      (s (ix3 (y 0) ⟨(y 1 : ℕ) / 128, by have : (y 1 : ℕ) < 2048 := (y 1).isLt; omega⟩
        ⟨(y 2 : ℕ) / 128, by have : (y 2 : ℕ) < 7168 := (y 2).isLt; omega⟩)) := by
  pointwise [update]
  rfl

theorem squares_apply (u : FVec Ideal S4x2048x7168 .f32) (y : S4x16x8x128.Idx) :
    squares u y = ∑ k : Fin 56, ∑ x : Fin 16,
      (u (ix3 (y 0) ⟨(y 1 : ℕ) * 128 + ((x : ℕ) * 8 + (y 2 : ℕ)), by
          have : (y 1 : ℕ) < 16 := (y 1).isLt; have : (y 2 : ℕ) < 8 := (y 2).isLt; omega⟩
          ⟨(k : ℕ) * 128 + (y 3 : ℕ), by have : (y 3 : ℕ) < 128 := (y 3).isLt; omega⟩) *
        u (ix3 (y 0) ⟨(y 1 : ℕ) * 128 + ((x : ℕ) * 8 + (y 2 : ℕ)), by
          have : (y 1 : ℕ) < 16 := (y 1).isLt; have : (y 2 : ℕ) < 8 := (y 2).isLt; omega⟩
          ⟨(k : ℕ) * 128 + (y 3 : ℕ), by have : (y 3 : ℕ) < 128 := (y 3).isLt; omega⟩)) := by
  pointwise [squares]
  unfold Ideal.reduceAdd
  refine (Finset.sum_filter_eq_sum_of_fiber _ (fun k : Fin 16 × Fin 56 => (ix6 (y 0) (y 1) k.1 (y 2) k.2 (y 3) : S4x16x16x8x56x128.Idx))
    (fun _ _ e => Prod.ext (congrFun e 2) (congrFun e 4)) (fiber_r6_a24 y) _).trans ?_
  rw [Fintype.sum_prod_type, Finset.sum_comm]
  refine Finset.sum_congr rfl fun k _ => Finset.sum_congr rfl fun x _ => ?_
  pointwise
  simp only [Nat.add_assoc]

variable (g : Vec Ideal S4x2048x7168 .bf16) (co : Vec Ideal S4x2048x7168 .i8) (s : Vec Ideal S4x16x56 .f32)

theorem newScale_apply (y : S4x16x56.Idx) : k0_pay5 g co s y = scaleOf (mom g co s (y 0) (y 1) (y 2)) := by
  rw [pay5_eq, scale_apply, absMax_apply]
  simp only [mom_apply]
  rfl

theorem newCode_apply (y : S4x2048x7168.Idx) : k0_pay6 g co s y = FloatOps.fptosi (F := Ideal) (φ := .f32) 8 (quantOf
      (mom g co s (y 0) ⟨(y 1 : ℕ) / 128, by have : (y 1 : ℕ) < 2048 := (y 1).isLt; omega⟩
        ⟨(y 2 : ℕ) / 128, by have : (y 2 : ℕ) < 7168 := (y 2).isLt; omega⟩ ⟨(y 1 : ℕ) % 128, by omega⟩ ⟨(y 2 : ℕ) % 128, by omega⟩)
      (scaleOf (mom g co s (y 0) ⟨(y 1 : ℕ) / 128, by have : (y 1 : ℕ) < 2048 := (y 1).isLt; omega⟩
        ⟨(y 2 : ℕ) / 128, by have : (y 2 : ℕ) < 7168 := (y 2).isLt; omega⟩))) := by
  rw [pay6_eq, codes_apply, newScale_apply, mom_apply]
  rfl

theorem update_at (b : Fin 4) (r : Fin 16) (k : Fin 56) (p q : Fin 128) :
    k0_pay7 g co s (ix3 b ⟨(r : ℕ) * 128 + (p : ℕ), by omega⟩ ⟨(k : ℕ) * 128 + (q : ℕ), by omega⟩) = upd g co s b r k p q := by
  rw [pay7_eq, update_apply, newCode_apply, newScale_apply, sitofp_fptosi_quantOf]
  have e1 : (⟨((r : ℕ) * 128 + (p : ℕ)) / 128, by omega⟩ : Fin 16) = r := Fin.ext (show ((r : ℕ) * 128 + (p : ℕ)) / 128 = r by omega)
  have e2 : (⟨((r : ℕ) * 128 + (p : ℕ)) % 128, by omega⟩ : Fin 128) = p := Fin.ext (show ((r : ℕ) * 128 + (p : ℕ)) % 128 = p by omega)
  have e3 : (⟨((k : ℕ) * 128 + (q : ℕ)) / 128, by omega⟩ : Fin 56) = k := Fin.ext (show ((k : ℕ) * 128 + (q : ℕ)) / 128 = k by omega)
  have e4 : (⟨((k : ℕ) * 128 + (q : ℕ)) % 128, by omega⟩ : Fin 128) = q := Fin.ext (show ((k : ℕ) * 128 + (q : ℕ)) % 128 = q by omega)
  show updOf _ (quantOf (mom g co s b ⟨((r : ℕ) * 128 + (p : ℕ)) / 128, _⟩ ⟨((k : ℕ) * 128 + (q : ℕ)) / 128, _⟩
      ⟨((r : ℕ) * 128 + (p : ℕ)) % 128, _⟩ ⟨((k : ℕ) * 128 + (q : ℕ)) % 128, _⟩)
    (scaleOf (mom g co s b ⟨((r : ℕ) * 128 + (p : ℕ)) / 128, _⟩ ⟨((k : ℕ) * 128 + (q : ℕ)) / 128, _⟩)))
    (scaleOf (mom g co s b ⟨((r : ℕ) * 128 + (p : ℕ)) / 128, _⟩ ⟨((k : ℕ) * 128 + (q : ℕ)) / 128, _⟩)) = _
  rw [e1, e2, e3, e4]
  rfl

theorem squares_at (y : S4x16x8x128.Idx) : k0_pay2 (k0_pay7 g co s) y = ∑ k : Fin 56, ∑ x : Fin 16,
      (upd g co s (y 0) (y 1) k ⟨(x : ℕ) * 8 + (y 2 : ℕ), by have : (y 2 : ℕ) < 8 := (y 2).isLt; omega⟩ (y 3) *
        upd g co s (y 0) (y 1) k ⟨(x : ℕ) * 8 + (y 2 : ℕ), by have : (y 2 : ℕ) < 8 := (y 2).isLt; omega⟩ (y 3)) := by
  rw [pay2_eq, squares_apply]
  refine Finset.sum_congr rfl fun k _ => Finset.sum_congr rfl fun x _ => ?_
  have e := update_at g co s (y 0) (y 1) k ⟨(x : ℕ) * 8 + (y 2 : ℕ), by have : (y 2 : ℕ) < 8 := (y 2).isLt; omega⟩ (y 3)
  exact congrArg₂ (· * ·) e e

end Cert.Proof.Momentum.Ref

end
-- ==== Proof.Momentum.Value.lean ====
/-
  Hand-written, untrusted. The momentum kernel, as arrays over the extended reals: after its run the three result arrays (the new codes,
  the new scales and the partial sums of the update's squares) are the reference's three payloads of the argument arrays.
-/
module

public import proofs.«01_k».proof.Proof.Momentum.Out
public import proofs.«01_k».proof.Proof.Momentum.Ref
public import proofs.«01_k».proof.Proof.Gen.MomentumIdeal.Value

@[expose] public section

set_option maxRecDepth 16384

noncomputable section

namespace Cert.Proof.Momentum

open Idealize.ShloMosaic Idealize.ShloMosaic.TcCoe Idealize.SL.Sem
open Idealize.ShloMosaic.Pipeline (Dat)
open Cert.MomentumIdeal Cert.MomentumIdeal.Gen

/-- What the reference stores as the new codes, the new scales and the partial sums of the update's squares. -/
theorem refCodes (g : Vec Ideal S4x2048x7168 .bf16) (co : Vec Ideal S4x2048x7168 .i8) (s : Vec Ideal S4x16x56 .f32) :
    Cert.MomentumRefIdeal.Value.G3 (F := Ideal) g co s = Cert.MomentumRefIdeal.Gen.k0_pay6 (F := Ideal) g co s := by
  unfold Cert.MomentumRefIdeal.Value.G3
  frame_out

theorem refScales (g : Vec Ideal S4x2048x7168 .bf16) (co : Vec Ideal S4x2048x7168 .i8) (s : Vec Ideal S4x16x56 .f32) :
    Cert.MomentumRefIdeal.Value.G4 (F := Ideal) g co s
      = Cert.MomentumRefIdeal.Gen.k0_pay1 (Cert.MomentumRefIdeal.Gen.k0_pay5 (F := Ideal) g co s) := by
  unfold Cert.MomentumRefIdeal.Value.G4
  frame_out

theorem refSquares (g : Vec Ideal S4x2048x7168 .bf16) (co : Vec Ideal S4x2048x7168 .i8) (s : Vec Ideal S4x16x56 .f32) :
    Cert.MomentumRefIdeal.Value.G5 (F := Ideal) g co s
      = Cert.MomentumRefIdeal.Gen.k0_pay2 (Cert.MomentumRefIdeal.Gen.k0_pay7 (F := Ideal) g co s) := by
  unfold Cert.MomentumRefIdeal.Value.G5
  frame_out

theorem refScales_apply (g : Vec Ideal S4x2048x7168 .bf16) (co : Vec Ideal S4x2048x7168 .i8) (s : Vec Ideal S4x16x56 .f32)
    (y : S4x16x1x56.Idx) : Cert.MomentumRefIdeal.Value.G4 (F := Ideal) g co s y = scaleOf (Ref.mom g co s (y 0) (y 1) (y 3)) := by
  rw [refScales]
  have e := Ref.newScale_apply g co s (ix3 (y 0) (y 1) (y 3))
  generalize Cert.MomentumRefIdeal.Gen.k0_pay5 (F := Ideal) g co s = v at e ⊢
  revert e
  pointwise [Cert.MomentumRefIdeal.Gen.k0_pay1]
  exact id

variable (m : (ℓ : Loc nD τ sig) → Buf (Elt Ideal) ℓ)

/-- Grid point `t` is array `t / 16` and row of blocks `t % 16`. -/
theorem idx : ∀ t : Fin cfg0.N, win0_0.index t = ![0, 0, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16, 0, 0] ∧ win0_5.index t = ![t.val / 16, t.val % 16, 0, 0] :=
  (by decide +kernel : ∀ t : Fin grid0.N, _)

theorem coords : ∀ t : Fin cfg0.N, (grid0.coords t 0).val = t.val / 16 ∧ (grid0.coords t 1).val = t.val % 16 ∧ t.val / 16 < 4 :=
  (by decide +kernel : ∀ t : Fin grid0.N, _)

/-- The array and the row of blocks of a grid point. -/
def arr (t : Fin cfg0.N) : Fin 4 := ⟨t.val / 16, (coords t).2.2⟩
def row (t : Fin cfg0.N) : Fin 16 := ⟨t.val % 16, Nat.mod_lt _ (by omega)⟩

section
variable (c : Dev nD) (t : Fin cfg0.N)

abbrev G : Vec Ideal S4x2048x7168 .bf16 := m ((c : Thread nD τ).loc main_arg0)
abbrev C : Vec Ideal S4x2048x7168 .i8 := m ((c : Thread nD τ).loc main_arg1)
abbrev S : Vec Ideal S4x16x56 .f32 := m ((c : Thread nD τ).loc main_arg2)

theorem gradBlock (k : Fin 56) (p q : Fin 128) (h) : iblk m c 1 t (ix3 0 p ⟨128 * (k : ℕ) + (q : ℕ), h⟩ : S1x128x7168.Idx)
    = G m c (ix3 (arr t) ⟨(row t : ℕ) * 128 + (p : ℕ), by have := (row t).isLt; omega⟩ ⟨(k : ℕ) * 128 + (q : ℕ), by omega⟩) := by
  unfold arr row G
  blk_ext [iblk, V, idx t]

theorem codeBlock (k : Fin 56) (p q : Fin 128) (h) : iblk m c 2 t (ix3 0 p ⟨128 * (k : ℕ) + (q : ℕ), h⟩ : S1x128x7168.Idx)
    = C m c (ix3 (arr t) ⟨(row t : ℕ) * 128 + (p : ℕ), by have := (row t).isLt; omega⟩ ⟨(k : ℕ) * 128 + (q : ℕ), by omega⟩) := by
  unfold arr row C
  blk_ext [iblk, V, idx t]

theorem scaleBlock (k : Fin 56) : iblk m c 0 t (ix3 (grid0.coords t 0) (grid0.coords t 1) k : S4x16x56.Idx)
    = S m c (ix3 (arr t) (row t) k) := by
  have e0 : (grid0.coords t 0 : Fin 4) = arr t := Fin.ext (coords t).1
  have e1 : (grid0.coords t 1 : Fin 16) = row t := Fin.ext (coords t).2.1
  rw [show (ix3 (grid0.coords t 0) (grid0.coords t 1) k : S4x16x56.Idx) = ix3 (arr t) (row t) k by rw [← e0, ← e1]]
  unfold S
  blk_ext [iblk, V, idx t]

/-- A tile of a grid point's block is a block of the array. -/
theorem tileMom_eq (k : Fin 56) : tileMom (grid0.coords t) (iblk m c 0 t) (iblk m c 1 t) (iblk m c 2 t) k
    = Ref.mom (G m c) (C m c) (S m c) (arr t) (row t) k := by
  funext p q
  unfold tileMom Ref.mom
  exact (congrArg₂ (fun a b => momOf a b _) (codeBlock m c t k p q _) (scaleBlock m c t k)).trans
    (congrArg (momOf _ _) (gradBlock m c t k p q _))

theorem tileUpd_eq (k : Fin 56) (p q : Fin 128) : tileUpd (grid0.coords t) (iblk m c 0 t) (iblk m c 1 t) (iblk m c 2 t) k p q
    = Ref.upd (G m c) (C m c) (S m c) (arr t) (row t) k p q := by
  unfold tileUpd Ref.upd
  rw [tileMom_eq]
  exact congrArg (fun a => updOf a _ _) (gradBlock m c t k p q _)

end

section
variable (c : Dev nD) (t : Fin cfg0.N)

/-- What a grid point leaves in the three result buffers. -/
theorem left3 (y : S1x128x7168.Idx) : (outsAt0 m c t).1 y = blockCode (grid0.coords t) (iblk m c 0 t) (iblk m c 1 t) (iblk m c 2 t) y := by
  simp only [outsAt0]
  rw [out3_apply]

theorem left4 (y : S1x1x1x56.Idx) : (outsAt0 m c t).2.1 y = scaleOf (Ref.mom (G m c) (C m c) (S m c) (arr t) (row t) (y 3)) := by
  simp only [outsAt0]
  rw [out4_apply]
  exact congrArg scaleOf (tileMom_eq m c t (y 3))

theorem left5 (y : S1x1x8x128.Idx) : (outsAt0 m c t).2.2 y = ∑ k : Fin 56, ∑ x : Fin 16,
      (Ref.upd (G m c) (C m c) (S m c) (arr t) (row t) k ⟨(x : ℕ) * 8 + (y 2 : ℕ), by have : (y 2 : ℕ) < 8 := (y 2).isLt; omega⟩ (y 3) *
        Ref.upd (G m c) (C m c) (S m c) (arr t) (row t) k ⟨(x : ℕ) * 8 + (y 2 : ℕ), by have : (y 2 : ℕ) < 8 := (y 2).isLt; omega⟩ (y 3)) := by
  simp only [outsAt0]
  rw [out5_apply]
  refine Finset.sum_congr rfl fun k _ => Finset.sum_congr rfl fun x _ => ?_
  have e := tileUpd_eq m c t k ⟨(x : ℕ) * 8 + (y 2 : ℕ), by have : (y 2 : ℕ) < 8 := (y 2).isLt; omega⟩ (y 3)
  exact congrArg₂ (· * ·) e e

theorem place3 (y : S1x128x7168.Idx) : blockCode (grid0.coords t) (iblk m c 0 t) (iblk m c 1 t) (iblk m c 2 t) y
    = Cert.MomentumRefIdeal.Gen.k0_pay6 (F := Ideal) (G m c) (C m c) (S m c) (((cfg0.win 3).blk t).view.emb y) := by
  have h0 : (y 0 : ℕ) < 1 := (y 0).isLt
  have h1 : (y 1 : ℕ) < 128 := (y 1).isLt
  have h2 : (y 2 : ℕ) < 7168 := (y 2).isLt
  have hz : (((cfg0.win 3).blk t).view.emb y : S4x2048x7168.Idx)
      = ix3 (arr t) ⟨(row t : ℕ) * 128 + (y 1 : ℕ), by have := (row t).isLt; omega⟩ (y 2) := by
    unfold arr row
    blk_ext [idx t]
  have e : Cert.MomentumRefIdeal.Gen.k0_pay6 (F := Ideal) (G m c) (C m c) (S m c) (((cfg0.win 3).blk t).view.emb y)
      = Cert.MomentumRefIdeal.Gen.k0_pay6 (F := Ideal) (G m c) (C m c) (S m c)
        (ix3 (arr t) ⟨(row t : ℕ) * 128 + (y 1 : ℕ), by have := (row t).isLt; omega⟩ (y 2)) :=
    congrArg (Cert.MomentumRefIdeal.Gen.k0_pay6 (F := Ideal) (G m c) (C m c) (S m c)) hz
  rw [e, Ref.newCode_apply]
  unfold blockCode
  rw [tileMom_eq]
  have e1 : (⟨((row t : ℕ) * 128 + (y 1 : ℕ)) / 128, by have := (row t).isLt; omega⟩ : Fin 16) = row t :=
    Fin.ext (show ((row t : ℕ) * 128 + (y 1 : ℕ)) / 128 = row t by omega)
  have e2 : (⟨((row t : ℕ) * 128 + (y 1 : ℕ)) % 128, by omega⟩ : Fin 128) = y 1 :=
    Fin.ext (show ((row t : ℕ) * 128 + (y 1 : ℕ)) % 128 = y 1 by omega)
  show _ = FloatOps.fptosi (F := Ideal) (φ := .f32) 8 (quantOf (Ref.mom (G m c) (C m c) (S m c) (arr t) ⟨((row t : ℕ) * 128 + (y 1 : ℕ)) / 128, _⟩ ⟨(y 2 : ℕ) / 128, _⟩
      ⟨((row t : ℕ) * 128 + (y 1 : ℕ)) % 128, _⟩ ⟨(y 2 : ℕ) % 128, _⟩)
    (scaleOf (Ref.mom (G m c) (C m c) (S m c) (arr t) ⟨((row t : ℕ) * 128 + (y 1 : ℕ)) / 128, _⟩ ⟨(y 2 : ℕ) / 128, _⟩)))
  rw [e1, e2]

theorem place4 (y : S1x1x1x56.Idx) : scaleOf (Ref.mom (G m c) (C m c) (S m c) (arr t) (row t) (y 3))
    = Cert.MomentumRefIdeal.Value.G4 (F := Ideal) (G m c) (C m c) (S m c) (((cfg0.win 4).blk t).view.emb y) := by
  have h0 : (y 0 : ℕ) < 1 := (y 0).isLt
  have h1 : (y 1 : ℕ) < 1 := (y 1).isLt
  have hz : (((cfg0.win 4).blk t).view.emb y : S4x16x1x56.Idx) = ix4 (arr t) (row t) 0 (y 3) := by
    unfold arr row
    blk_ext [idx t]
  have e : Cert.MomentumRefIdeal.Value.G4 (F := Ideal) (G m c) (C m c) (S m c) (((cfg0.win 4).blk t).view.emb y)
      = Cert.MomentumRefIdeal.Value.G4 (F := Ideal) (G m c) (C m c) (S m c) (ix4 (arr t) (row t) 0 (y 3)) :=
    congrArg (Cert.MomentumRefIdeal.Value.G4 (F := Ideal) (G m c) (C m c) (S m c)) hz
  rw [e, refScales_apply]
  rfl

theorem place5 (y : S1x1x8x128.Idx) : Cert.MomentumRefIdeal.Gen.k0_pay2 (Cert.MomentumRefIdeal.Gen.k0_pay7 (F := Ideal) (G m c) (C m c) (S m c))
      (((cfg0.win 5).blk t).view.emb y) = ∑ k : Fin 56, ∑ x : Fin 16,
      (Ref.upd (G m c) (C m c) (S m c) (arr t) (row t) k ⟨(x : ℕ) * 8 + (y 2 : ℕ), by have : (y 2 : ℕ) < 8 := (y 2).isLt; omega⟩ (y 3) *
        Ref.upd (G m c) (C m c) (S m c) (arr t) (row t) k ⟨(x : ℕ) * 8 + (y 2 : ℕ), by have : (y 2 : ℕ) < 8 := (y 2).isLt; omega⟩ (y 3)) := by
  have h0 : (y 0 : ℕ) < 1 := (y 0).isLt
  have h1 : (y 1 : ℕ) < 1 := (y 1).isLt
  have hz : (((cfg0.win 5).blk t).view.emb y : S4x16x8x128.Idx) = ix4 (arr t) (row t) (y 2) (y 3) := by
    unfold arr row
    blk_ext [idx t]
  exact (congrArg (Cert.MomentumRefIdeal.Gen.k0_pay2 (Cert.MomentumRefIdeal.Gen.k0_pay7 (F := Ideal) (G m c) (C m c) (S m c))) hz).trans
    (Ref.squares_at (G m c) (C m c) (S m c) (ix4 (arr t) (row t) (y 2) (y 3)))

end

/-- After the run the first result array is the reference's new codes. -/
theorem final3 (c : Dev nD) : (dats m 0 c).arrAt 3 cfg0.N = Cert.MomentumRefIdeal.Value.G3 (F := Ideal) (G m c) (C m c) (S m c) := by
  rw [refCodes]
  refine (dats m 0 c).arrAt_eq_of_covers 3 _ (by decide +kernel) fun t _ y => ?_
  blk_simp
  rw [after0_3]
  exact (left3 m c t y).trans (place3 m c t y)

/-- After the run the second result array is the reference's new scales. -/
theorem final4 (c : Dev nD) : (dats m 0 c).arrAt 4 cfg0.N = Cert.MomentumRefIdeal.Value.G4 (F := Ideal) (G m c) (C m c) (S m c) := by
  refine (dats m 0 c).arrAt_eq_of_covers 4 _ (by decide +kernel) fun t _ y => ?_
  blk_simp
  rw [after0_4]
  exact (left4 m c t y).trans (place4 m c t y)

/-- After the run the third result array is the reference's partial sums of the update's squares. -/
theorem final5 (c : Dev nD) : (dats m 0 c).arrAt 5 cfg0.N = Cert.MomentumRefIdeal.Value.G5 (F := Ideal) (G m c) (C m c) (S m c) := by
  rw [refSquares]
  refine (dats m 0 c).arrAt_eq_of_covers 5 _ (by decide +kernel) fun t _ y => ?_
  blk_simp
  rw [after0_5]
  exact (left5 m c t y).trans (place5 m c t y).symm

end Cert.Proof.Momentum

end
-- ==== Proof.Apply.Value.lean ====
/-
  Hand-written, untrusted. One middle step of the iteration, as an array over the extended reals: after the run of `ApplyIdeal` the
  result array is the reference's composed term of the two argument arrays.
-/
module

public import proofs.«01_k».proof.Proof.Gen.ApplyIdeal.Value
public import proofs.«01_k».proof.Proof.Gen.ApplyRefIdeal.Read
public import Idealize.ShloMosaic.Lib.Pipeline.ValueKit
public import Idealize.ShloMosaic.PureOps.Ideal.Laws

@[expose] public section

set_option maxRecDepth 16384

noncomputable section

namespace Cert.Proof.Apply

open Idealize.ShloMosaic Idealize.ShloMosaic.TcCoe Idealize.SL.Sem
open Idealize.ShloMosaic.Pipeline (Dat)
open Cert.ApplyIdeal Cert.ApplyIdeal.Gen

variable (m : (ℓ : Loc nD τ sig) → Buf (Elt Ideal) ℓ)

/-- Grid point `t` is batch entry `t / 14` and column tile `t % 14`. -/
theorem idx : ∀ t : Fin cfg0.N, win0_0.index t = ![t.val / 14, 0, 0] ∧ win0_1.index t = ![t.val / 14, 0, t.val % 14]
    ∧ win0_2.index t = ![t.val / 14, 0, t.val % 14] :=
  (by decide +kernel : ∀ t : Fin grid0.N, _)

/-- The next iterate, element by element: what the body stores is the reference's at the element's place in the array. -/
theorem point2 (c : Dev nD) (t : Fin cfg0.N) (y) : k0_pay1 (iblk m c 0 t) (iblk m c 1 t) (iblk m c 1 t) y
    = Cert.ApplyRefIdeal.Read.val_main_v5 (F := Ideal) (m ((c : Thread nD τ).loc main_arg0)) (m ((c : Thread nD τ).loc main_arg1))
        (((cfg0.win 2).blk t).view.emb y) := by
  rw [← Cert.ApplyRefIdeal.Read.val_main_v5_eq]
  pointwise [k0_pay1]
  blk_point [iblk, V, idx t]

/-- After the run the result array is the reference's next iterate. -/
theorem final2 (c : Dev nD) : (dats m 0 c).arrAt 2 cfg0.N
    = Cert.ApplyRefIdeal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point2 m c t y

end Cert.Proof.Apply

end
-- ==== Proof.XZero.Tile.lean ====
/-
  Hand-written, untrusted. What one grid point of the `x0` kernel stores, written with the column tile as a variable.
-/
module

public import proofs.«01_k».proof.Proof.Gen.XZeroIdeal.Frame
public import Idealize.ShloMosaic.Lib.Pipeline.ValueKit
public import Idealize.ShloMosaic.Lib.WholeRead
public import Idealize.ShloMosaic.PureOps.Ideal.Laws

@[expose] public section

set_option maxRecDepth 16384

noncomputable section

namespace Cert.Proof.XZero

open Idealize.ShloMosaic Idealize.ShloMosaic.TcCoe
open Cert.XZeroIdeal Cert.XZeroIdeal.Gen

section
variable {F : FTy → Type} [FloatOps F]

theorem inb3 (k : Nat) (h : k < 56) : ∀ a, (![0, 0, 128 * k] : Fin 3 → Nat) a + S1x128x128.size a ≤ S1x128x7168.size a := by
  intro a; fin_cases a <;> simp [S1x128x128, S1x128x7168] <;> omega

/-- Tile `k` of a block of 128 rows. -/
abbrev box3 (k : Nat) (h : k < 56) : Rect S1x128x7168 := Rect.unit ![0, 0, 128 * k] S1x128x128.size (inb3 k h)

/-- The place of the scale of tile `k` at grid point `i`. -/
def scaleOff (i : grid0.Coords) (k : Nat) : Fin 3 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat, k]

theorem scaleOff_eq (i : grid0.Coords) (k : Nat) : scaleOff i k = ![(i 0).val, (i 1).val, k] := by
  have h := k0_off1_eq i
  have h0 := congrFun h 0
  have h1 := congrFun h 1
  funext a
  fin_cases a
  · exact h0
  · exact h1
  · rfl

theorem scaleInb (i : grid0.Coords) (k : Nat) (h : k < 56) : ∀ a, scaleOff i k a + S1x1x1.size a ≤ S4x16x56.size a := by
  rw [scaleOff_eq]
  have h0 : (i 0).val < 4 := (i 0).isLt
  have h1 : (i 1).val < 16 := (i 1).isLt
  intro a; fin_cases a <;> simp [S1x1x1, S4x16x56] <;> omega

/-- The tile stored: the update at the tile's scale over the norm. -/
def tile (den : FVec F S1x1 .f32) (s : Elt F .f32) (g : Vec F S1x128x128 .bf16) (q : Vec F S1x128x128 .i8) : FVec F S1x128x128 .bf16 :=
  shapeCast S1x128x128 (truncf .bf16 (divf (addf (extf .f32 (shapeCast S128x128 g shapeCasts_S1x128x128_S128x128) bitsLt_bf16_f32)
    (mulf (broadcast S128x128 (Scalar.ofBits .f32 0x3F733333#32))
      (mulf (sitofp .f32 (shapeCast S128x128 q shapeCasts_S1x128x128_S128x128)) (broadcast S128x128 s))))
    (broadcastTo S128x128 den broadcasts_S1x1_S128x128)) bitsLt_bf16_f32) shapeCasts_S128x128_S1x128x128

variable (c : Dev nD) (i : grid0.Coords) (arg2 : Memref sig .tc .smem S4x16x56 .f32) (harg2 : arg2.IsWhole)
  (arg3 : Memref sig .tc .vmem S1x16x8x128 .f32) (harg3 : arg3.IsWhole)
  (arg4 : Memref sig .tc .vmem S1x128x7168 .bf16) (harg4 : arg4.IsWhole) (arg5 : Memref sig .tc .vmem S1x128x7168 .i8) (harg5 : arg5.IsWhole)
  (arg6 : Memref sig .tc .vmem S1x128x7168 .bf16) (harg6 : arg6.IsWhole)
  (x0 : Vec F S4x16x56 .f32) (x1 : Vec F S1x16x8x128 .f32) (x2 : Vec F S1x128x7168 .bf16) (x3 : Vec F S1x128x7168 .i8)

def scale (k : Nat) (h : k < 56) : Elt F .f32 :=
  View.readAt (Elt F) arg2.view (Rect.unit (s := S4x16x56) (scaleOff i k) S1x1x1.size (scaleInb i k h)).toLoadRect (harg2.unread x0)
    (Shape.Idx.first (show 0 < S1x1x1.numel by decide))

def grad (k : Nat) (h : k < 56) : Vec F S1x128x128 .bf16 := View.readAt (Elt F) arg4.view (box3 k h).toLoadRect (harg4.unread x2)

def code (k : Nat) (h : k < 56) : Vec F S1x128x128 .i8 := View.readAt (Elt F) arg5.view (box3 k h).toLoadRect (harg5.unread x3)

/-- The norm's denominator, from the partial sums the point loads. -/
def den : FVec F S1x1 .f32 := k0_pay2 (View.readAt (Elt F) arg3.view
  (Rect.unit (s := S1x16x8x128) ![0, 0, 0, 0] S1x16x8x128.size inb_S1x16x8x128_S1x16x8x128_0_0_0_0).toLoadRect (harg3.unread x1))

/-- The first `n` tiles stored, last first. -/
def stored : (n : Nat) → n ≤ 56 → List (View.Piece (Elt F) S1x128x7168 .bf16)
  | 0, _ => []
  | n + 1, h => ⟨box3 n h, tile (den arg3 harg3 x1) (scale i arg2 harg2 x0 n h) (grad arg4 harg4 x2 n h) (code arg5 harg5 x3 n h)⟩
      :: stored n (Nat.le_of_succ_le h)

theorem word : (kernelRun0_A c i arg2 harg2 arg3 harg3 arg4 harg4 arg5 harg5 arg6 harg6 x0 x1 x2 x3).1
    = stored i arg2 harg2 arg3 harg3 arg4 harg4 arg5 harg5 x0 x1 x2 x3 56 le_rfl := rfl

end

end Cert.Proof.XZero

end
-- ==== Proof.XZero.Value.lean ====
/-
  Hand-written, untrusted. The `x0` kernel, as an array over the extended reals: after its run the result array is the reference's payload
  of the argument arrays. The kernel's grid point takes the sum of the partial sums over the rows of one 128 by 128 tile, the reference
  over three axes; the rest is the same arithmetic.
-/
module

public import proofs.«01_k».proof.Proof.XZero.Tile
public import proofs.«01_k».proof.Proof.Gen.XZeroIdeal.Value
public import proofs.«01_k».proof.Proof.Gen.XZeroRefIdeal.Value

@[expose] public section

set_option maxRecDepth 16384

noncomputable section

namespace Cert.Proof.XZero

open Idealize.ShloMosaic Idealize.ShloMosaic.TcCoe Idealize.SL.Sem
open Idealize.ShloMosaic.Pipeline (Dat)

abbrev factor : EReal := Ideal.ofBits .f32 1064514355#32
abbrev eps : EReal := Ideal.ofBits .f32 869711765#32

/-- One entry of `x0`, from its gradient, its code, its scale and the sum of the squares. -/
def entry (g : EReal) (q : BitVec 8) (s t : EReal) : EReal :=
  Ideal.div (g + factor * (FloatOps.sitofp (F := Ideal) .f32 q * s)) (Ideal.sqrt t + eps)

/-- A sum over 128 rows is a sum over 16 groups of 8 rows. -/
theorem sum_rows (f : Fin 16 → Fin 8 → EReal) :
    ∑ x : Fin 128, f ⟨(x : ℕ) / 8, by omega⟩ ⟨(x : ℕ) % 8, by omega⟩ = ∑ r : Fin 16, ∑ i : Fin 8, f r i := by
  rw [← Fintype.sum_prod_type (f := fun p : Fin 16 × Fin 8 => f p.1 p.2)]
  refine (Fintype.sum_equiv (finProdFinEquiv (m := 16) (n := 8)) _ _ fun p => ?_).symm
  obtain ⟨r, i⟩ := p
  have e : ((finProdFinEquiv (m := 16) (n := 8) (r, i) : Fin (16 * 8)) : ℕ) = (i : ℕ) + 8 * (r : ℕ) := rfl
  have e1 : (⟨((finProdFinEquiv (m := 16) (n := 8) (r, i) : Fin (16 * 8)) : ℕ) / 8, by omega⟩ : Fin 16) = r :=
    Fin.ext (show ((finProdFinEquiv (m := 16) (n := 8) (r, i) : Fin (16 * 8)) : ℕ) / 8 = r by omega)
  have e2 : (⟨((finProdFinEquiv (m := 16) (n := 8) (r, i) : Fin (16 * 8)) : ℕ) % 8, by omega⟩ : Fin 8) = i :=
    Fin.ext (show ((finProdFinEquiv (m := 16) (n := 8) (r, i) : Fin (16 * 8)) : ℕ) % 8 = i by omega)
  show f r i = f ⟨((finProdFinEquiv (m := 16) (n := 8) (r, i) : Fin (16 * 8)) : ℕ) / 8, _⟩
    ⟨((finProdFinEquiv (m := 16) (n := 8) (r, i) : Fin (16 * 8)) : ℕ) % 8, _⟩
  rw [e1, e2]

/-! ## The reference -/

namespace Ref

open Cert.XZeroRefIdeal Cert.XZeroRefIdeal.Gen

section
variable {F : FTy → Type} [FloatOps F]

/-- The sum of the squares of one array. -/
def total (v : FVec F S4x16x8x128 .f32) : FVec F S4 .f32 :=
  multiReduction .add [1, 2, 3] S4 v 0x00000000#32 reduces_S4x16x8x128_S4 (.inl rfl) rfl

/-- The update over its norm. -/
def over (u : FVec F S4x2048x7168 .f32) (t : FVec F S4 .f32) : FVec F S4x2048x7168 .bf16 :=
  truncf .bf16 (divf u (broadcastTo S4x2048x7168 (addf (shapeCast S4x1x1 (sqrt t) shapeCasts_S4_S4x1x1)
    (broadcast S4x1x1 (Scalar.ofBits .f32 0x33D6BF95#32))) broadcasts_S4x1x1_S4x2048x7168)) bitsLt_bf16_f32

/-- The update. -/
def update (g : FVec F S4x2048x7168 .bf16) (q : IVec S4x2048x7168 8) (s : FVec F S4x16x56 .f32) : FVec F S4x2048x7168 .f32 :=
  addf (extf .f32 g bitsLt_bf16_f32) (mulf (broadcast S4x2048x7168 (Scalar.ofBits .f32 0x3F733333#32))
    (shapeCast S4x2048x7168 (mulf (shapeCast S4x16x128x56x128 (sitofp .f32 q) shapeCasts_S4x2048x7168_S4x16x128x56x128)
      (broadcastTo S4x16x128x56x128 (shapeCast S4x16x1x56x1 s shapeCasts_S4x16x56_S4x16x1x56x1)
        broadcasts_S4x16x1x56x1_S4x16x128x56x128)) shapeCasts_S4x16x128x56x128_S4x2048x7168))

theorem pay1_eq (q : Vec F S4x2048x7168 .i8) (s : Vec F S4x16x56 .f32) (g : Vec F S4x2048x7168 .bf16) (v : Vec F S4x16x8x128 .f32) :
    k0_pay1 q s g v = over (update g q s) (total v) := rfl

end

theorem fiber_a123 (j : S4.Idx) (i : S4x16x8x128.Idx) :
    reduces_S4x16x8x128_S4.drop i = j ↔ ∃ k : Fin 16 × Fin 8 × Fin 128, (ix4 (j 0) k.1 k.2.1 k.2.2 : S4x16x8x128.Idx) = i := by
  constructor
  · intro e
    refine ⟨(i 1, i 2, i 3), ?_⟩
    funext a; apply Fin.ext
    match a with
    | ⟨0, _⟩ => exact (congrArg Fin.val (congrFun e 0)).symm
    | ⟨1, _⟩ => rfl
    | ⟨2, _⟩ => rfl
    | ⟨3, _⟩ => rfl
  · rintro ⟨k, rfl⟩
    funext b
    apply Fin.ext
    match b with
    | ⟨0, _⟩ => rfl

theorem total_apply (v : FVec Ideal S4x16x8x128 .f32) (y : S4.Idx) :
    total v y = ∑ r : Fin 16, ∑ i : Fin 8, ∑ j : Fin 128, v (ix4 (y 0) r i j) := by
  pointwise [total]
  unfold Ideal.reduceAdd
  refine (Finset.sum_filter_eq_sum_of_fiber _ (fun k : Fin 16 × Fin 8 × Fin 128 => (ix4 (y 0) k.1 k.2.1 k.2.2 : S4x16x8x128.Idx))
    (fun _ _ e => Prod.ext (congrFun e 1) (Prod.ext (congrFun e 2) (congrFun e 3))) (fiber_a123 y) _).trans ?_
  simp only [Fintype.sum_prod_type]

theorem over_apply (u : FVec Ideal S4x2048x7168 .f32) (t : FVec Ideal S4 .f32) (y : S4x2048x7168.Idx) :
    over u t y = Ideal.div (u y) (Ideal.sqrt (t (ix1 (y 0))) + eps) := by
  pointwise [over]

theorem update_apply (g : FVec Ideal S4x2048x7168 .bf16) (q : IVec S4x2048x7168 8) (s : FVec Ideal S4x16x56 .f32) (y : S4x2048x7168.Idx) :
    update g q s y = g y + factor * (FloatOps.sitofp (F := Ideal) .f32 (q y) *
      s (ix3 (y 0) ⟨(y 1 : ℕ) / 128, by have : (y 1 : ℕ) < 2048 := (y 1).isLt; omega⟩
        ⟨(y 2 : ℕ) / 128, by have : (y 2 : ℕ) < 7168 := (y 2).isLt; omega⟩)) := by
  pointwise [update]

theorem x0_apply (q : Vec Ideal S4x2048x7168 .i8) (s : Vec Ideal S4x16x56 .f32) (g : Vec Ideal S4x2048x7168 .bf16)
    (v : Vec Ideal S4x16x8x128 .f32) (y : S4x2048x7168.Idx) : k0_pay1 q s g v y = entry (g y) (q y)
      (s (ix3 (y 0) ⟨(y 1 : ℕ) / 128, by have : (y 1 : ℕ) < 2048 := (y 1).isLt; omega⟩
        ⟨(y 2 : ℕ) / 128, by have : (y 2 : ℕ) < 7168 := (y 2).isLt; omega⟩))
      (∑ r : Fin 16, ∑ i : Fin 8, ∑ j : Fin 128, v (ix4 (y 0) r i j)) := by
  rw [pay1_eq, over_apply, update_apply, total_apply]
  rfl

theorem stored (g : Vec Ideal S4x2048x7168 .bf16) (q : Vec Ideal S4x2048x7168 .i8) (s : Vec Ideal S4x16x56 .f32)
    (v : Vec Ideal S4x16x8x128 .f32) : Cert.XZeroRefIdeal.Value.G4 (F := Ideal) g q s v = k0_pay1 (F := Ideal) q s g v := by
  unfold Cert.XZeroRefIdeal.Value.G4
  frame_out

end Ref

/-! ## The kernel, one grid point -/

open Cert.XZeroIdeal Cert.XZeroIdeal.Gen

theorem tile_apply (den : FVec Ideal S1x1 .f32) (s : Elt Ideal .f32) (g : Vec Ideal S1x128x128 .bf16) (q : Vec Ideal S1x128x128 .i8)
    (y : S1x128x128.Idx) :
    tile den s g q y = Ideal.div (g y + factor * (FloatOps.sitofp (F := Ideal) .f32 (q y) * s)) (den (ix2 0 0)) := by
  pointwise [tile]

theorem pay2_apply (v : Vec Ideal S1x16x8x128 .f32) (y : S1x1.Idx) :
    k0_pay2 v y = Ideal.sqrt (∑ r : Fin 16, ∑ i : Fin 8, ∑ j : Fin 128, v (ix4 0 r i j)) + eps := by
  rw [← sum_rows fun r i => ∑ j : Fin 128, v (ix4 0 r i j)]
  pointwise [k0_pay2]

section
variable (c : Dev nD) (i : grid0.Coords) (arg2 : Memref sig .tc .smem S4x16x56 .f32) (harg2 : arg2.IsWhole)
  (arg3 : Memref sig .tc .vmem S1x16x8x128 .f32) (harg3 : arg3.IsWhole)
  (arg4 : Memref sig .tc .vmem S1x128x7168 .bf16) (harg4 : arg4.IsWhole) (arg5 : Memref sig .tc .vmem S1x128x7168 .i8) (harg5 : arg5.IsWhole)
  (arg6 : Memref sig .tc .vmem S1x128x7168 .bf16) (harg6 : arg6.IsWhole)
  (x0 : Vec Ideal S4x16x56 .f32) (x1 : Vec Ideal S1x16x8x128 .f32) (x2 : Vec Ideal S1x128x7168 .bf16) (x3 : Vec Ideal S1x128x7168 .i8)

theorem scale_apply (k : Nat) (h : k < 56) : scale i arg2 harg2 x0 k h = x0 (ix3 (i 0) (i 1) ⟨k, h⟩) := by
  unfold scale
  rw [Memref.IsWhole.readAt_unread harg2]
  congr 1
  have e := scaleOff_eq i k
  funext a
  apply Fin.ext
  have := congrFun e a
  fin_cases a <;> simpa [LoadRect.idx, Rect.unit] using this

theorem den_apply (y : S1x1.Idx) : den arg3 harg3 x1 y
    = Ideal.sqrt (∑ r : Fin 16, ∑ i : Fin 8, ∑ j : Fin 128, x1 (ix4 0 r i j)) + eps := by
  unfold den
  rw [pay2_apply]
  congr 2
  refine Finset.sum_congr rfl fun r _ => Finset.sum_congr rfl fun i _ => Finset.sum_congr rfl fun j _ => ?_
  rw [Memref.IsWhole.readAt_unread harg3]
  congr 1
  funext a
  apply Fin.ext
  fin_cases a <;> simp [LoadRect.idx, Rect.unit]

/-- What the point stores at an entry of its block. -/
def block (y : S1x128x7168.Idx) : EReal :=
  entry (x2 y) (x3 y) (x0 (ix3 (i 0) (i 1) ⟨(y 2 : ℕ) / 128, by have : (y 2 : ℕ) < 7168 := (y 2).isLt; omega⟩))
    (∑ r : Fin 16, ∑ i : Fin 8, ∑ j : Fin 128, x1 (ix4 0 r i j))

theorem mem_stored : ∀ (n : Nat) (h : n ≤ 56) (p : View.Piece (Elt Ideal) S1x128x7168 .bf16),
    p ∈ stored i arg2 harg2 arg3 harg3 arg4 harg4 arg5 harg5 x0 x1 x2 x3 n h → ∃ (k : Nat) (hk : k < 56),
      p = ⟨box3 k hk, tile (den arg3 harg3 x1) (scale i arg2 harg2 x0 k hk) (grad arg4 harg4 x2 k hk) (code arg5 harg5 x3 k hk)⟩
  | 0, _, p, hp => absurd hp List.not_mem_nil
  | n + 1, h, p, hp => by
    rcases List.mem_cons.mp hp with rfl | hp
    · exact ⟨n, h, rfl⟩
    · exact mem_stored n (Nat.le_of_succ_le h) p hp

theorem out_apply (y : S1x128x7168.Idx) :
    out0_A_4 c i arg2 harg2 arg3 harg3 arg4 harg4 arg5 harg5 arg6 harg6 x0 x1 x2 x3 y = block i x0 x1 x2 x3 y := by
  unfold out0_A_4
  rw [View.read_writes_junk_eq_canon]
  refine View.canon_apply_of_pieces (block i x0 x1 x2 x3) _ (fun p hp x => ?_) y
    (cover0_A_4 c i arg2 harg2 arg3 harg3 arg4 harg4 arg5 harg5 arg6 harg6 x0 x1 x2 x3 y)
  rw [word] at hp
  obtain ⟨k, hk, rfl⟩ := mem_stored _ _ _ _ _ _ _ _ _ _ _ _ _ _ _ p hp
  show tile _ _ _ _ x = _
  rw [tile_apply, scale_apply, den_apply]
  unfold block grad code
  rw [Memref.IsWhole.readAt_unread harg4, Memref.IsWhole.readAt_unread harg5]
  have h2 : (x 2 : ℕ) < 128 := (x 2).isLt
  have e2 : ((box3 k hk).emb x 2 : ℕ) = 128 * k + (x 2 : ℕ) := by
    rw [Rect.emb_apply]
    show 128 * k + 1 * (x 2 : ℕ) = _
    omega
  have f2 : (⟨((box3 k hk).emb x 2 : ℕ) / 128, by omega⟩ : Fin 56) = ⟨k, hk⟩ :=
    Fin.ext (show ((box3 k hk).emb x 2 : ℕ) / 128 = k by omega)
  rw [f2]
  rfl

end

/-! ## The array -/

variable (m : (ℓ : Loc nD τ sig) → Buf (Elt Ideal) ℓ)

/-- Grid point `t` is array `t / 16` and row of blocks `t % 16`. -/
theorem idx : ∀ t : Fin cfg0.N, win0_0.index t = ![0, 0, 0] ∧ win0_1.index t = ![t.val / 16, 0, 0, 0]
    ∧ win0_2.index t = ![t.val / 16, t.val % 16, 0] ∧ win0_3.index t = ![t.val / 16, t.val % 16, 0]
    ∧ win0_4.index t = ![t.val / 16, t.val % 16, 0] :=
  (by decide +kernel : ∀ t : Fin grid0.N, _)

theorem coords : ∀ t : Fin cfg0.N, (grid0.coords t 0).val = t.val / 16 ∧ (grid0.coords t 1).val = t.val % 16 ∧ t.val / 16 < 4 :=
  (by decide +kernel : ∀ t : Fin grid0.N, _)

/-- The array and the row of blocks of a grid point. -/
def arr (t : Fin cfg0.N) : Fin 4 := ⟨t.val / 16, (coords t).2.2⟩
def row (t : Fin cfg0.N) : Fin 16 := ⟨t.val % 16, Nat.mod_lt _ (by omega)⟩

section
variable (c : Dev nD) (t : Fin cfg0.N)

abbrev G : Vec Ideal S4x2048x7168 .bf16 := m ((c : Thread nD τ).loc main_arg0)
abbrev C : Vec Ideal S4x2048x7168 .i8 := m ((c : Thread nD τ).loc main_arg1)
abbrev S : Vec Ideal S4x16x56 .f32 := m ((c : Thread nD τ).loc main_arg2)
abbrev Q : Vec Ideal S4x16x8x128 .f32 := m ((c : Thread nD τ).loc main_arg3)

theorem left4 (y : S1x128x7168.Idx) : outsAt0 m c t y = block (grid0.coords t) (iblk m c 0 t) (iblk m c 1 t) (iblk m c 2 t) (iblk m c 3 t) y := by
  simp only [outsAt0]
  rw [out_apply]

/-- Where an entry of the point's block lies in the array. -/
abbrev place (y : S1x128x7168.Idx) : S4x2048x7168.Idx :=
  ix3 (arr t) ⟨(row t : ℕ) * 128 + (y 1 : ℕ), by have := (row t).isLt; have : (y 1 : ℕ) < 128 := (y 1).isLt; omega⟩ (y 2)

theorem gradBlock (y : S1x128x7168.Idx) : iblk m c 2 t y = G m c (place t y) := by
  have h0 : (y 0 : ℕ) < 1 := (y 0).isLt
  unfold place arr row G
  blk_ext [iblk, V, idx t]

theorem codeBlock (y : S1x128x7168.Idx) : iblk m c 3 t y = C m c (place t y) := by
  have h0 : (y 0 : ℕ) < 1 := (y 0).isLt
  unfold place arr row C
  blk_ext [iblk, V, idx t]

theorem sumBlock (r : Fin 16) (i : Fin 8) (j : Fin 128) : iblk m c 1 t (ix4 0 r i j : S1x16x8x128.Idx) = Q m c (ix4 (arr t) r i j) := by
  unfold arr Q
  blk_ext [iblk, V, idx t]

theorem scaleBlock (k : Fin 56) : iblk m c 0 t (ix3 (grid0.coords t 0) (grid0.coords t 1) k : S4x16x56.Idx)
    = S m c (ix3 (arr t) (row t) k) := by
  have e0 : (grid0.coords t 0 : Fin 4) = arr t := Fin.ext (coords t).1
  have e1 : (grid0.coords t 1 : Fin 16) = row t := Fin.ext (coords t).2.1
  rw [show (ix3 (grid0.coords t 0) (grid0.coords t 1) k : S4x16x56.Idx) = ix3 (arr t) (row t) k by rw [← e0, ← e1]]
  unfold S
  blk_ext [iblk, V, idx t]

/-- The sum over a block's entries, for the sums of squares. -/
def blockSum (v : Vec Ideal S1x16x8x128 .f32) : EReal := ∑ r : Fin 16, ∑ i : Fin 8, ∑ j : Fin 128, v (ix4 0 r i j)

theorem blockSum_eq (v : Vec Ideal S1x16x8x128 .f32) (w : Fin 16 → Fin 8 → Fin 128 → EReal) (h : ∀ r i j, v (ix4 0 r i j) = w r i j) :
    blockSum v = ∑ r : Fin 16, ∑ i : Fin 8, ∑ j : Fin 128, w r i j :=
  Finset.sum_congr rfl fun r _ => Finset.sum_congr rfl fun i _ => Finset.sum_congr rfl fun j _ => h r i j

theorem total_eq : blockSum (iblk m c 1 t) = ∑ r : Fin 16, ∑ i : Fin 8, ∑ j : Fin 128, Q m c (ix4 (arr t) r i j) :=
  blockSum_eq _ _ fun r i j => sumBlock m c t r i j

theorem place4 (y : S1x128x7168.Idx) : block (grid0.coords t) (iblk m c 0 t) (iblk m c 1 t) (iblk m c 2 t) (iblk m c 3 t) y
    = Cert.XZeroRefIdeal.Gen.k0_pay1 (F := Ideal) (C m c) (S m c) (G m c) (Q m c) (((cfg0.win 4).blk t).view.emb y) := by
  have h0 : (y 0 : ℕ) < 1 := (y 0).isLt
  have h1 : (y 1 : ℕ) < 128 := (y 1).isLt
  have hz : (((cfg0.win 4).blk t).view.emb y : S4x2048x7168.Idx) = place t y := by
    unfold place arr row
    blk_ext [idx t]
  refine Eq.trans ?_ (congrArg (Cert.XZeroRefIdeal.Gen.k0_pay1 (F := Ideal) (C m c) (S m c) (G m c) (Q m c)) hz).symm
  rw [Ref.x0_apply]
  unfold block
  change entry _ _ _ (blockSum (iblk m c 1 t)) = _
  rw [total_eq, gradBlock, codeBlock]
  have e1 : (⟨((row t : ℕ) * 128 + (y 1 : ℕ)) / 128, by have := (row t).isLt; omega⟩ : Fin 16) = row t :=
    Fin.ext (show ((row t : ℕ) * 128 + (y 1 : ℕ)) / 128 = row t by omega)
  refine congrArg (fun s => entry (G m c (place t y)) (C m c (place t y)) s _) ((scaleBlock m c t _).trans ?_)
  show _ = S m c (ix3 (arr t) ⟨((row t : ℕ) * 128 + (y 1 : ℕ)) / 128, _⟩ ⟨(y 2 : ℕ) / 128, _⟩)
  rw [e1]

end

/-- After the run the result array is the reference's `x0`. -/
theorem final4 (c : Dev nD) : (dats m 0 c).arrAt 4 cfg0.N
    = Cert.XZeroRefIdeal.Value.G4 (F := Ideal) (G m c) (C m c) (S m c) (Q m c) := by
  rw [Ref.stored]
  refine (dats m 0 c).arrAt_eq_of_covers 4 _ (by decide +kernel) fun t _ y => ?_
  blk_simp
  rw [after0_4]
  exact (left4 m c t y).trans (place4 m c t y)

end Cert.Proof.XZero

end
-- ==== Proof.Gram.Tables.lean ====
/- The two tables that the products call prefetches: step `s` of a batch forms tile `(rowTab s, colTab s)`, ten steps for the
   ten tiles on and above the diagonal of a 4 × 4 grid of tiles. Here: the tables' contents as the call finds them, and the
   side conditions that the call states of the words it reads there. -/
module

public import proofs.«01_k».proof.Proof.Gen.GramIdeal
public import proofs.«01_k».proof.Proof.Gen.GramIdeal.Skeleton
public import proofs.«01_k».proof.Proof.Gen.GramIdeal.Launch
public import Idealize.ShloMosaic.Lib.Pipeline.FrameBody
public import Idealize.ShloMosaic.Lib.Pipeline.DatRel
public import Idealize.ShloMosaic.Lib.Pipeline.ArrRel
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.GramIdeal.Hand

open Idealize.ShloMosaic Idealize.ShloMosaic.TcCoe
open Cert.GramIdeal Cert.GramIdeal.Gen

variable {F : FTy → Type} [FloatOps F]

/-- The row of tiles that step `s` works in. -/
def rowTab : Fin 10 → Fin 4 := ![0, 0, 0, 0, 1, 1, 1, 2, 2, 3]
/-- The column of tiles that step `s` works in. -/
def colTab : Fin 10 → Fin 4 := ![0, 1, 2, 3, 1, 2, 3, 2, 3, 3]

/-- A tile's number as the word the table holds. -/
abbrev word (p : Fin 4) : BitVec 32 := BitVec.ofNat 32 p.val

/-- The first table's words. -/
theorem lit0_eq (s : Fin 10) : lit0 s = word (rowTab s) := by
  revert s; decide
/-- The second table's words. -/
theorem lit1_eq (s : Fin 10) : lit1 s = word (colTab s) := by
  revert s; decide

/-- The tables' contents when the call begins. -/
def tab : pre0.Contents (Elt F) := fun
  | 0 => fun x => lit0 (S10.rowMajor x)
  | 1 => fun x => lit1 (S10.rowMajor x)
  | ⟨_ + 2, h⟩ => absurd h (Nat.not_lt.2 (Nat.le_add_left _ _))

/-- The cell of a table that step `i` reads. -/
abbrev cell (i : grid0.Coords) : S10.Idx :=
  (Rect.unit (s := S10) (k0_off1 i) S1.size (k0_off1_inb i)).emb (Shape.Idx.first (numel1_S1.symm ▸ Nat.one_pos))

theorem cell_eq (i : grid0.Coords) : S10.rowMajor (cell i) = i 1 :=
  Fin.ext ((by decide +kernel : ∀ i : grid0.Coords, (S10.rowMajor (cell i)).val = (i 1).val) i)

theorem tab0_at (i : grid0.Coords) : (tab (F := F) 0 (cell i) : BitVec 32) = word (rowTab (i 1)) :=
  (congrArg lit0 (cell_eq i)).trans (lit0_eq _)
theorem tab1_at (i : grid0.Coords) : (tab (F := F) 1 (cell i) : BitVec 32) = word (colTab (i 1)) :=
  (congrArg lit1 (cell_eq i)).trans (lit1_eq _)

/-- The first window's block at each step: batch `i 0`, row of tiles `rowTab (i 1)`. -/
theorem map0_eq (i : grid0.Coords) : cc0_transform_0 k0_off1_inb numel1_S1 (tab (F := F)) i = ![(i 0).val, (rowTab (i 1)).val, 0] := by
  have h : ∀ (i : grid0.Coords) (p : Fin 4), (![(BitVec.ofNat 32 (i 0).val).toNat, (word p).toNat, (0#32 : BitVec 32).toNat] : Fin 3 → Nat) = ![(i 0).val, p.val, 0] := by decide +kernel
  rw [← h, ← tab0_at (F := F) i]; rfl
/-- The second window's block at each step: batch `i 0`, row of tiles `colTab (i 1)`. -/
theorem map1_eq (i : grid0.Coords) : cc0_transform_1 k0_off1_inb numel1_S1 (tab (F := F)) i = ![(i 0).val, (colTab (i 1)).val, 0] := by
  have h : ∀ (i : grid0.Coords) (p : Fin 4), (![(BitVec.ofNat 32 (i 0).val).toNat, (word p).toNat, (0#32 : BitVec 32).toNat] : Fin 3 → Nat) = ![(i 0).val, p.val, 0] := by decide +kernel
  rw [← h, ← tab1_at (F := F) i]; rfl

theorem block_ok : ∀ (b p : Fin 4), ∃ h : (∀ a, ((![b.val, p.val, 0] : Fin 3 → Nat) a + 1) * S1x512x7168.size a ≤ S4x2048x7168.size a),
    EltTy.bits .bf16 = 32 ∨ (Rect.block (s := S4x2048x7168) S1x512x7168.size (![b.val, p.val, 0] : Fin 3 → Nat) h).WholeWords (EltTy.packing .bf16) := by
  decide +kernel

/-- Every block that the tables name lies in the array. -/
theorem tab_ok : ok0 (tab (F := F)) :=
  ⟨fun i => by rw [map0_eq]; exact block_ok (i 0) (rowTab (i 1)), fun i => by rw [map1_eq]; exact block_ok (i 0) (colTab (i 1))⟩

/-- The tables' contents, admissible. -/
abbrev adm : (p : Fin 1) → (pcfgs (F := F) p).Adm := fun _ => ⟨tab, tab_ok⟩
/-- The pipeline at the tables' contents. -/
abbrev cfgT : Pipeline.Cfg sig Λ₀ := cfg0 (F := F) ⟨tab, tab_ok⟩

theorem chk1_word : ∀ p : Fin 4, k0_chk1 (word p) := by decide +kernel
theorem chk2_word : ∀ p q : Fin 4, k0_chk2 (word p) (word q) := by decide +kernel
/-- The body's mirror store happens off the diagonal. -/
theorem cond1_word : ∀ p q : Fin 4, k0_cond1 (word p) (word q) = 1#1 ↔ p ≠ q := by decide +kernel
/-- The body's second product happens at a batch's last step. -/
theorem cond2_iff : ∀ i : grid0.Coords, k0_cond2 i = 1#1 ↔ (i 1).val = 9 := by decide +kernel

/-- The word of the first table that step `i` reads, -/
abbrev wordI (F : FTy → Type) [FloatOps F] (i : grid0.Coords) : BitVec 32 := tab (F := F) 0 (cell i)
/-- and of the second. -/
abbrev wordJ (F : FTy → Type) [FloatOps F] (i : grid0.Coords) : BitVec 32 := tab (F := F) 1 (cell i)
theorem chk1_at (i : grid0.Coords) : k0_chk1 (wordI F i) := by
  rw [wordI, tab0_at]; exact chk1_word _
theorem chk2_at (i : grid0.Coords) : k0_chk2 (wordI F i) (wordJ F i) := by
  rw [wordI, wordJ, tab0_at, tab1_at]; exact chk2_word _ _
theorem cond1_at (i : grid0.Coords) : k0_cond1 (wordI F i) (wordJ F i) = 1#1 ↔ rowTab (i 1) ≠ colTab (i 1) := by
  rw [wordI, wordJ, tab0_at, tab1_at]; exact cond1_word _ _
/-- Where the tile is stored, -/
theorem off2_word : ∀ p q : Fin 4, k0_off2 (word p) (word q) = ![0, 512 * p.val, 512 * q.val] := by decide +kernel
/-- and where its mirror is. -/
theorem off3_word : ∀ p q : Fin 4, k0_off3 (word p) (word q) = ![0, 512 * q.val, 512 * p.val] := by decide +kernel

theorem off2_at (i : grid0.Coords) : k0_off2 (wordI F i) (wordJ F i) = ![0, 512 * (rowTab (i 1)).val, 512 * (colTab (i 1)).val] := by
  rw [wordI, wordJ, tab0_at, tab1_at]; exact off2_word _ _
theorem off3_at (i : grid0.Coords) : k0_off3 (wordI F i) (wordJ F i) = ![0, 512 * (colTab (i 1)).val, 512 * (rowTab (i 1)).val] := by
  rw [wordI, wordJ, tab0_at, tab1_at]; exact off3_word _ _

end Cert.GramIdeal.Hand

end
-- ==== Proof.Gram.Body.lean ====
/- One run of the products call's body at one step, over the memory: it writes the step's tile of products, and off the
   diagonal its mirror, into the first result's block, and at a batch's last step the second result's block, whole. -/
module

public import proofs.«01_k».proof.Proof.Gram.Tables
public import Idealize.ShloMosaic.Lib.Pipeline.ValueKit
public import Idealize.ShloMosaic.Lib.WritesUnit

@[expose] public section

set_option maxRecDepth 16384

noncomputable section

namespace Cert.GramIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GramIdeal Cert.GramIdeal.Gen

variable {F : FTy → Type} [FloatOps F]

local notation "𝕄" => MT nD τ sig Unit (Elt F) ℕ (UR sig nD τ) ℕ

/-! ## What a run leaves -/

/-- The tile row or column that a coordinate lies in, -/
abbrev tl (n : Fin 2048) : Fin 4 := ⟨n.val / 512, by omega⟩
/-- and its place in that tile. -/
abbrev lo (n : Fin 2048) : Fin 512 := ⟨n.val % 512, by omega⟩
/-- Coordinate `r` of tile row or column `p`. -/
abbrev at_ (p : Fin 4) (r : Fin 512) : Fin 2048 := ⟨512 * p.val + r.val, by omega⟩
/-- An entry's place in its tile. -/
abbrev loc (y : S1x2048x2048.Idx) : S1x512x512.Idx := ix3 (0 : Fin 1) (lo (y 1)) (lo (y 2))

/-- Block `A` with tile `(p, q)` replaced by `t` and tile `(q, p)` by `m`. -/
def upd (p q : Fin 4) (t m : Vec F S1x512x512 .bf16) (A : Vec F S1x2048x2048 .bf16) : Vec F S1x2048x2048 .bf16 := fun y =>
  if tl (y 1) = p ∧ tl (y 2) = q then t (loc y) else if tl (y 1) = q ∧ tl (y 2) = p then m (loc y) else A y

/-- Tile row `p` of a block, -/
def rowsOf (a : Vec F S1x2048x2048 .bf16) (p : Fin 4) : Vec F S1x512x2048 .bf16 := fun z => a (ix3 (0 : Fin 1) (at_ p (z 1)) (z 2))
/-- tile column `q`, -/
def colsOf (a : Vec F S1x2048x2048 .bf16) (q : Fin 4) : Vec F S1x2048x512 .bf16 := fun z => a (ix3 (0 : Fin 1) (z 1) (at_ q (z 2)))
/-- and tile `(p, q)`. -/
def tileOf (a : Vec F S1x2048x2048 .bf16) (p q : Fin 4) : Vec F S1x512x512 .bf16 := fun z => a (ix3 (0 : Fin 1) (at_ p (z 1)) (at_ q (z 2)))

/-- The second result's tile `(p, q)`, `p ≤ q`, -/
def bTile (a : Vec F S1x2048x2048 .bf16) (p q : Fin 4) : Vec F S1x512x512 .bf16 := k0_pay5 (rowsOf a p) (colsOf a q) (tileOf a p q)
/-- and its mirror, tile `(q, p)`. -/
def bMirror (a : Vec F S1x2048x2048 .bf16) (p q : Fin 4) : Vec F S1x512x512 .bf16 := k0_pay8 (k0_pay6 (rowsOf a p) (colsOf a q) (tileOf a p q))
/-- The second result's block, of the first's. -/
def bmat (a : Vec F S1x2048x2048 .bf16) : Vec F S1x2048x2048 .bf16 := fun y =>
  if tl (y 1) ≤ tl (y 2) then bTile a (tl (y 1)) (tl (y 2)) (loc y) else bMirror a (tl (y 2)) (tl (y 1)) (loc y)

/-- The block after step `i`'s stores, of the two blocks of `x` it reads. -/
def stepA (i : grid0.Coords) (x0 x1 : Vec F S1x512x7168 .bf16) (A : Vec F S1x2048x2048 .bf16) : Vec F S1x2048x2048 .bf16 :=
  upd (rowTab (i 1)) (colTab (i 1)) (k0_pay2 x0 x1) (k0_pay3 x0 x1) A
/-- The second result's block after step `i`. -/
def stepB (i : grid0.Coords) (a B : Vec F S1x2048x2048 .bf16) : Vec F S1x2048x2048 .bf16 := if (i 1).val = 9 then bmat a else B

/-! ## The first result's stores, read back -/

section
variable {sp : Space} (v : View sig .tc sp S1x2048x2048 .bf16) (f : v.ty.Contents (Elt F))

theorem read_tile (L : List (View.Piece (Elt F) S1x2048x2048 .bf16)) (p q : Fin 4) (off : Fin 3 → Nat) (h : off = ![0, 512 * p.val, 512 * q.val])
    (inb : ∀ a, off a + S1x512x512.size a ≤ S1x2048x2048.size a) (w : Vec F S1x512x512 .bf16) (y : S1x2048x2048.Idx) :
    v.read (Elt F) (v.writes (Elt F) f ((⟨Rect.unit off S1x512x512.size inb, w⟩ : View.Piece (Elt F) S1x2048x2048 .bf16) :: L)) y
      = if tl (y 1) = p ∧ tl (y 2) = q then w (loc y) else v.read (Elt F) (v.writes (Elt F) f L) y := by
  have h0 : (y 0 : ℕ) < 1 := (y 0).isLt
  have h1 : (y 1 : ℕ) < 2048 := (y 1).isLt
  have h2 : (y 2 : ℕ) < 2048 := (y 2).isLt
  by_cases hy : tl (y 1) = p ∧ tl (y 2) = q
  · rw [if_pos hy]
    have e1 : (y 1 : ℕ) / 512 = p.val := congrArg Fin.val hy.1
    have e2 : (y 2 : ℕ) / 512 = q.val := congrArg Fin.val hy.2
    refine View.read_writes_cons_unit_of_mem v f inb w L y (loc y) h fun a => ?_
    match a with
    | ⟨0, _⟩ => show (y 0 : ℕ) = 0 + 0; omega
    | ⟨1, _⟩ => show (y 1 : ℕ) = 512 * p.val + (y 1 : ℕ) % 512; omega
    | ⟨2, _⟩ => show (y 2 : ℕ) = 512 * q.val + (y 2 : ℕ) % 512; omega
  · rw [if_neg hy]
    by_cases e1 : (y 1 : ℕ) / 512 = p.val
    · have e2 : (y 2 : ℕ) / 512 ≠ q.val := fun e => hy ⟨Fin.ext e1, Fin.ext e⟩
      exact View.read_writes_cons_unit_of_not_mem v f inb w L y h 2
        (show (y 2 : ℕ) < 512 * q.val ∨ 512 * q.val + 512 ≤ (y 2 : ℕ) by omega)
    · exact View.read_writes_cons_unit_of_not_mem v f inb w L y h 1
        (show (y 1 : ℕ) < 512 * p.val ∨ 512 * p.val + 512 ≤ (y 1 : ℕ) by omega)

/-- Off the diagonal, both stores. -/
theorem read_off (p q : Fin 4) (hpq : p ≠ q) (off off' : Fin 3 → Nat) (h : off = ![0, 512 * p.val, 512 * q.val])
    (h' : off' = ![0, 512 * q.val, 512 * p.val]) (inb : ∀ a, off a + S1x512x512.size a ≤ S1x2048x2048.size a)
    (inb' : ∀ a, off' a + S1x512x512.size a ≤ S1x2048x2048.size a) (t m : Vec F S1x512x512 .bf16) (A : Vec F S1x2048x2048 .bf16)
    (hf : v.read (Elt F) f = A) :
    v.read (Elt F) (v.writes (Elt F) f [(⟨Rect.unit off' S1x512x512.size inb', m⟩ : View.Piece (Elt F) S1x2048x2048 .bf16),
      ⟨Rect.unit off S1x512x512.size inb, t⟩]) = upd p q t m A := by
  funext y
  rw [read_tile v f _ q p off' h', read_tile v f _ p q off h, upd, show v.read (Elt F) (v.writes (Elt F) f []) y = A y from congrFun hf y]
  by_cases ha : tl (y 1) = p ∧ tl (y 2) = q
  · rw [if_pos ha, if_pos ha, if_neg fun hb => hpq (ha.1.symm.trans hb.1)]
  · rw [if_neg ha, if_neg ha]

/-- On it, the one. -/
theorem read_on (p q : Fin 4) (hpq : p = q) (off : Fin 3 → Nat) (h : off = ![0, 512 * p.val, 512 * q.val])
    (inb : ∀ a, off a + S1x512x512.size a ≤ S1x2048x2048.size a) (t m : Vec F S1x512x512 .bf16) (A : Vec F S1x2048x2048 .bf16)
    (hf : v.read (Elt F) f = A) :
    v.read (Elt F) (v.writes (Elt F) f [(⟨Rect.unit off S1x512x512.size inb, t⟩ : View.Piece (Elt F) S1x2048x2048 .bf16)]) = upd p q t m A := by
  subst hpq
  funext y
  rw [read_tile v f _ p p off h, upd, show v.read (Elt F) (v.writes (Elt F) f []) y = A y from congrFun hf y]
  by_cases ha : tl (y 1) = p ∧ tl (y 2) = p
  · rw [if_pos ha, if_pos ha]
  · rw [if_neg ha, if_neg ha, if_neg ha]
end

/-! ## The second result's block -/

theorem ld_rows (a : Vec F S1x2048x2048 .bf16) (p : Fin 4) (off : Fin 3 → Nat) (h : off = ![0, 512 * p.val, 0])
    (inb : ∀ b, off b + S1x512x2048.size b ≤ S1x2048x2048.size b) : View.ld a (Rect.unit off S1x512x2048.size inb) = rowsOf a p := by
  subst h
  funext z
  have h0 : (z 0 : ℕ) < 1 := (z 0).isLt
  refine congrArg a (funext fun b => Fin.ext ?_)
  match b with
  | ⟨0, _⟩ => show 0 + 1 * (z 0 : ℕ) = 0; omega
  | ⟨1, _⟩ => show 512 * p.val + 1 * (z 1 : ℕ) = 512 * p.val + (z 1 : ℕ); omega
  | ⟨2, _⟩ => show 0 + 1 * (z 2 : ℕ) = (z 2 : ℕ); omega
theorem ld_cols (a : Vec F S1x2048x2048 .bf16) (q : Fin 4) (off : Fin 3 → Nat) (h : off = ![0, 0, 512 * q.val])
    (inb : ∀ b, off b + S1x2048x512.size b ≤ S1x2048x2048.size b) : View.ld a (Rect.unit off S1x2048x512.size inb) = colsOf a q := by
  subst h
  funext z
  have h0 : (z 0 : ℕ) < 1 := (z 0).isLt
  refine congrArg a (funext fun b => Fin.ext ?_)
  match b with
  | ⟨0, _⟩ => show 0 + 1 * (z 0 : ℕ) = 0; omega
  | ⟨1, _⟩ => show 0 + 1 * (z 1 : ℕ) = (z 1 : ℕ); omega
  | ⟨2, _⟩ => show 512 * q.val + 1 * (z 2 : ℕ) = 512 * q.val + (z 2 : ℕ); omega
theorem ld_tile (a : Vec F S1x2048x2048 .bf16) (p q : Fin 4) (off : Fin 3 → Nat) (h : off = ![0, 512 * p.val, 512 * q.val])
    (inb : ∀ b, off b + S1x512x512.size b ≤ S1x2048x2048.size b) : View.ld a (Rect.unit off S1x512x512.size inb) = tileOf a p q := by
  subst h
  funext z
  have h0 : (z 0 : ℕ) < 1 := (z 0).isLt
  refine congrArg a (funext fun b => Fin.ext ?_)
  match b with
  | ⟨0, _⟩ => show 0 + 1 * (z 0 : ℕ) = 0; omega
  | ⟨1, _⟩ => show 512 * p.val + 1 * (z 1 : ℕ) = 512 * p.val + (z 1 : ℕ); omega
  | ⟨2, _⟩ => show 512 * q.val + 1 * (z 2 : ℕ) = 512 * q.val + (z 2 : ℕ); omega

/-- A piece that holds the block `G` at tile `(p, q)`. -/
theorem piece_of_tile (G : Vec F S1x2048x2048 .bf16) (p q : Fin 4) (off : Fin 3 → Nat) (h : off = ![0, 512 * p.val, 512 * q.val])
    (inb : ∀ b, off b + S1x512x512.size b ≤ S1x2048x2048.size b) (w : Vec F S1x512x512 .bf16)
    (hw : ∀ y, tl (y 1) = p → tl (y 2) = q → G y = w (loc y)) (x : S1x512x512.Idx) : w x = G ((Rect.unit (s := S1x2048x2048) off S1x512x512.size inb).emb x) := by
  subst h
  have h0 : (x 0 : ℕ) < 1 := (x 0).isLt
  have h1 : (x 1 : ℕ) < 512 := (x 1).isLt
  have h2 : (x 2 : ℕ) < 512 := (x 2).isLt
  refine ((hw _ (Fin.ext ?_) (Fin.ext ?_)).trans (congrArg w (funext fun b => Fin.ext ?_))).symm
  · show (512 * p.val + 1 * (x 1 : ℕ)) / 512 = p.val; omega
  · show (512 * q.val + 1 * (x 2 : ℕ)) / 512 = q.val; omega
  · match b with
    | ⟨0, _⟩ => show 0 = (x 0 : ℕ); omega
    | ⟨1, _⟩ => show (512 * p.val + 1 * (x 1 : ℕ)) % 512 = (x 1 : ℕ); omega
    | ⟨2, _⟩ => show (512 * q.val + 1 * (x 2 : ℕ)) % 512 = (x 2 : ℕ); omega

theorem bmat_tile (a : Vec F S1x2048x2048 .bf16) (p q : Fin 4) (hpq : p ≤ q) (y : S1x2048x2048.Idx) (h1 : tl (y 1) = p) (h2 : tl (y 2) = q) :
    bmat a y = bTile a p q (loc y) := by
  subst h1; subst h2; rw [bmat, if_pos hpq]
theorem bmat_mirror (a : Vec F S1x2048x2048 .bf16) (p q : Fin 4) (hpq : ¬ q ≤ p) (y : S1x2048x2048.Idx) (h1 : tl (y 1) = q) (h2 : tl (y 2) = p) :
    bmat a y = bMirror a p q (loc y) := by
  subst h1; subst h2; rw [bmat, if_neg hpq]

theorem inb_rows : ∀ (p : Fin 4) (b : Fin 3), (![0, 512 * p.val, 0] : Fin 3 → Nat) b + S1x512x2048.size b ≤ S1x2048x2048.size b := by decide
theorem inb_cols : ∀ (q : Fin 4) (b : Fin 3), (![0, 0, 512 * q.val] : Fin 3 → Nat) b + S1x2048x512.size b ≤ S1x2048x2048.size b := by decide
theorem inb_tile : ∀ (p q : Fin 4) (b : Fin 3), (![0, 512 * p.val, 512 * q.val] : Fin 3 → Nat) b + S1x512x512.size b ≤ S1x2048x2048.size b := by decide

/-- The loads of the second product's tile `(p, q)`, spelt as the body spells them. -/
theorem bTile_ld (a : Vec F S1x2048x2048 .bf16) (p q : Fin 4) : bTile a p q = k0_pay5 (View.ld a (Rect.unit ![0, 512 * p.val, 0] S1x512x2048.size (inb_rows p)))
    (View.ld a (Rect.unit ![0, 0, 512 * q.val] S1x2048x512.size (inb_cols q))) (View.ld a (Rect.unit ![0, 512 * p.val, 512 * q.val] S1x512x512.size (inb_tile p q))) := by
  rw [ld_rows a p _ rfl, ld_cols a q _ rfl, ld_tile a p q _ rfl]; rfl
theorem bMirror_ld (a : Vec F S1x2048x2048 .bf16) (p q : Fin 4) : bMirror a p q = k0_pay8 (k0_pay6 (View.ld a (Rect.unit ![0, 512 * p.val, 0] S1x512x2048.size (inb_rows p)))
    (View.ld a (Rect.unit ![0, 0, 512 * q.val] S1x2048x512.size (inb_cols q))) (View.ld a (Rect.unit ![0, 512 * p.val, 512 * q.val] S1x512x512.size (inb_tile p q)))) := by
  rw [ld_rows a p _ rfl, ld_cols a q _ rfl, ld_tile a p q _ rfl]; rfl

/-- A store of tile `(p, q)`, and of a mirror, as a piece of the second result's block. -/
theorem piece_direct (a : Vec F S1x2048x2048 .bf16) (p q : Fin 4) (hpq : p ≤ q) (inb : ∀ b, (![0, 512 * p.val, 512 * q.val] : Fin 3 → Nat) b + S1x512x512.size b ≤ S1x2048x2048.size b)
    (w : Vec F S1x512x512 .bf16) (hw : w = bTile a p q) (x : S1x512x512.Idx) :
    w x = bmat a ((Rect.unit (s := S1x2048x2048) ![0, 512 * p.val, 512 * q.val] S1x512x512.size inb).emb x) :=
  piece_of_tile (bmat a) p q _ rfl inb w (fun y h1 h2 => hw ▸ bmat_tile a p q hpq y h1 h2) x
theorem piece_mirror (a : Vec F S1x2048x2048 .bf16) (p q : Fin 4) (hpq : ¬ q ≤ p) (inb : ∀ b, (![0, 512 * q.val, 512 * p.val] : Fin 3 → Nat) b + S1x512x512.size b ≤ S1x2048x2048.size b)
    (w : Vec F S1x512x512 .bf16) (hw : w = bMirror a p q) (x : S1x512x512.Idx) :
    w x = bmat a ((Rect.unit (s := S1x2048x2048) ![0, 512 * q.val, 512 * p.val] S1x512x512.size inb).emb x) :=
  piece_of_tile (bmat a) q p _ rfl inb w (fun y h1 h2 => hw ▸ bmat_mirror a p q hpq y h1 h2) x

/-- Stores that each hold `G` and together cover the block leave `G`. -/
theorem read_all {sp : Space} (v : View sig .tc sp S1x2048x2048 .bf16) (f : v.ty.Contents (Elt F)) (G : Vec F S1x2048x2048 .bf16)
    (L : List (View.Piece (Elt F) S1x2048x2048 .bf16)) (hc : ∀ y : S1x2048x2048.Idx, ∃ p ∈ L, y ∈ p.1.set)
    (h : ∀ p ∈ L, ∀ x, p.2 x = G (p.1.emb x)) : v.read (Elt F) (v.writes (Elt F) f L) = G := by
  funext y
  rw [View.read_writes_apply_eq_canon v f y L (hc y)]
  exact View.canon_eq_of_allAt L y (G y) (hc y) fun p hp x hx => hx ▸ h p hp x

/-- The sixteen stores of the last step leave the second result's block. -/
theorem read_pieces {sp : Space} (v : View sig .tc sp S1x2048x2048 .bf16) (f : v.ty.Contents (Elt F)) (a : Vec F S1x2048x2048 .bf16)
    (w33 w32 w23 w22 w31 w13 w21 w12 w11 w30 w03 w20 w02 w10 w01 w00 : Vec F S1x512x512 .bf16)
    (h33 : bTile a 3 3 = w33)
    (h32 : bMirror a 2 3 = w32)
    (h23 : bTile a 2 3 = w23)
    (h22 : bTile a 2 2 = w22)
    (h31 : bMirror a 1 3 = w31)
    (h13 : bTile a 1 3 = w13)
    (h21 : bMirror a 1 2 = w21)
    (h12 : bTile a 1 2 = w12)
    (h11 : bTile a 1 1 = w11)
    (h30 : bMirror a 0 3 = w30)
    (h03 : bTile a 0 3 = w03)
    (h20 : bMirror a 0 2 = w20)
    (h02 : bTile a 0 2 = w02)
    (h10 : bMirror a 0 1 = w10)
    (h01 : bTile a 0 1 = w01)
    (h00 : bTile a 0 0 = w00) :
    v.read (Elt F) (v.writes (Elt F) f ([⟨Rect.unit ![0, 1536, 1536] S1x512x512.size inb_S1x2048x2048_S1x512x512_0_1536_1536, w33⟩,
      ⟨Rect.unit ![0, 1536, 1024] S1x512x512.size inb_S1x2048x2048_S1x512x512_0_1536_1024, w32⟩,
      ⟨Rect.unit ![0, 1024, 1536] S1x512x512.size inb_S1x2048x2048_S1x512x512_0_1024_1536, w23⟩,
      ⟨Rect.unit ![0, 1024, 1024] S1x512x512.size inb_S1x2048x2048_S1x512x512_0_1024_1024, w22⟩,
      ⟨Rect.unit ![0, 1536, 512] S1x512x512.size inb_S1x2048x2048_S1x512x512_0_1536_512, w31⟩,
      ⟨Rect.unit ![0, 512, 1536] S1x512x512.size inb_S1x2048x2048_S1x512x512_0_512_1536, w13⟩,
      ⟨Rect.unit ![0, 1024, 512] S1x512x512.size inb_S1x2048x2048_S1x512x512_0_1024_512, w21⟩,
      ⟨Rect.unit ![0, 512, 1024] S1x512x512.size inb_S1x2048x2048_S1x512x512_0_512_1024, w12⟩,
      ⟨Rect.unit ![0, 512, 512] S1x512x512.size inb_S1x2048x2048_S1x512x512_0_512_512, w11⟩,
      ⟨Rect.unit ![0, 1536, 0] S1x512x512.size inb_S1x2048x2048_S1x512x512_0_1536_0, w30⟩,
      ⟨Rect.unit ![0, 0, 1536] S1x512x512.size inb_S1x2048x2048_S1x512x512_0_0_1536, w03⟩,
      ⟨Rect.unit ![0, 1024, 0] S1x512x512.size inb_S1x2048x2048_S1x512x512_0_1024_0, w20⟩,
      ⟨Rect.unit ![0, 0, 1024] S1x512x512.size inb_S1x2048x2048_S1x512x512_0_0_1024, w02⟩,
      ⟨Rect.unit ![0, 512, 0] S1x512x512.size inb_S1x2048x2048_S1x512x512_0_512_0, w10⟩,
      ⟨Rect.unit ![0, 0, 512] S1x512x512.size inb_S1x2048x2048_S1x512x512_0_0_512, w01⟩,
      ⟨Rect.unit ![0, 0, 0] S1x512x512.size inb_S1x2048x2048_S1x512x512_0_0_0, w00⟩] : List (View.Piece (Elt F) S1x2048x2048 .bf16))) = bmat a := by
  refine read_all v f _ _ (View.cover_of_tiled (s := S1x2048x2048) _ ![1, 512, 512] (by sl_kernel_rfl)) ?_
  refine List.forall_mem_cons.2 ⟨fun x => piece_direct a 3 3 (by decide) inb_S1x2048x2048_S1x512x512_0_1536_1536 _ h33.symm x, ?_⟩
  refine List.forall_mem_cons.2 ⟨fun x => piece_mirror a 2 3 (by decide) inb_S1x2048x2048_S1x512x512_0_1536_1024 _ h32.symm x, ?_⟩
  refine List.forall_mem_cons.2 ⟨fun x => piece_direct a 2 3 (by decide) inb_S1x2048x2048_S1x512x512_0_1024_1536 _ h23.symm x, ?_⟩
  refine List.forall_mem_cons.2 ⟨fun x => piece_direct a 2 2 (by decide) inb_S1x2048x2048_S1x512x512_0_1024_1024 _ h22.symm x, ?_⟩
  refine List.forall_mem_cons.2 ⟨fun x => piece_mirror a 1 3 (by decide) inb_S1x2048x2048_S1x512x512_0_1536_512 _ h31.symm x, ?_⟩
  refine List.forall_mem_cons.2 ⟨fun x => piece_direct a 1 3 (by decide) inb_S1x2048x2048_S1x512x512_0_512_1536 _ h13.symm x, ?_⟩
  refine List.forall_mem_cons.2 ⟨fun x => piece_mirror a 1 2 (by decide) inb_S1x2048x2048_S1x512x512_0_1024_512 _ h21.symm x, ?_⟩
  refine List.forall_mem_cons.2 ⟨fun x => piece_direct a 1 2 (by decide) inb_S1x2048x2048_S1x512x512_0_512_1024 _ h12.symm x, ?_⟩
  refine List.forall_mem_cons.2 ⟨fun x => piece_direct a 1 1 (by decide) inb_S1x2048x2048_S1x512x512_0_512_512 _ h11.symm x, ?_⟩
  refine List.forall_mem_cons.2 ⟨fun x => piece_mirror a 0 3 (by decide) inb_S1x2048x2048_S1x512x512_0_1536_0 _ h30.symm x, ?_⟩
  refine List.forall_mem_cons.2 ⟨fun x => piece_direct a 0 3 (by decide) inb_S1x2048x2048_S1x512x512_0_0_1536 _ h03.symm x, ?_⟩
  refine List.forall_mem_cons.2 ⟨fun x => piece_mirror a 0 2 (by decide) inb_S1x2048x2048_S1x512x512_0_1024_0 _ h20.symm x, ?_⟩
  refine List.forall_mem_cons.2 ⟨fun x => piece_direct a 0 2 (by decide) inb_S1x2048x2048_S1x512x512_0_0_1024 _ h02.symm x, ?_⟩
  refine List.forall_mem_cons.2 ⟨fun x => piece_mirror a 0 1 (by decide) inb_S1x2048x2048_S1x512x512_0_512_0 _ h10.symm x, ?_⟩
  refine List.forall_mem_cons.2 ⟨fun x => piece_direct a 0 1 (by decide) inb_S1x2048x2048_S1x512x512_0_0_512 _ h01.symm x, ?_⟩
  refine List.forall_mem_cons.2 ⟨fun x => piece_direct a 0 0 (by decide) inb_S1x2048x2048_S1x512x512_0_0_0 _ h00.symm x, ?_⟩
  exact fun _ h => absurd h List.not_mem_nil

/-- The last step is on the diagonal. -/
theorem off_not_last : ∀ s : Fin 10, s.val = 9 → ¬ rowTab s ≠ colTab s := by decide

/-! ## The run -/

/-- The two tables, where the body reads them. -/
abbrev tbM0 : Memref sig .tc .smem S10 .i32 := Memref.whole main_c
abbrev tbM1 : Memref sig .tc .smem S10 .i32 := Memref.whole main_c_0
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

set_option maxHeartbeats 1000000 in
theorem run (c : Dev nD) (i : grid0.Coords) (arg4 : Memref sig .tc .vmem S1x512x7168 .bf16) (harg4 : arg4.IsWhole) (arg5 : Memref sig .tc .vmem S1x512x7168 .bf16) (harg5 : arg5.IsWhole) (arg6 : Memref sig .tc .vmem S1x2048x2048 .bf16) (harg6 : arg6.IsWhole) (arg7 : Memref sig .tc .vmem S1x2048x2048 .bf16) (harg7 : arg7.IsWhole)
    (x0 x1 : Vec F S1x512x7168 .bf16) (A B : Vec F S1x2048x2048 .bf16) (E : Set ℕ) (K : PUnit → sProp 𝕄) :
        iprop(tbPt c tbM0 (tab 0) ∗ tbPt c tbM1 (tab 1) ∗ owns (c : Thread nD τ) arg4 fullShare x0 ∗ owns (c : Thread nD τ) arg5 fullShare x1 ∗ owns (c : Thread nD τ) arg6 fullShare A ∗ owns (c : Thread nD τ) arg7 fullShare B
            ∗ (iprop(tbPt c tbM0 (tab 0) ∗ tbPt c tbM1 (tab 1) ∗ owns (c : Thread nD τ) arg4 fullShare x0 ∗ owns (c : Thread nD τ) arg5 fullShare x1
                ∗ owns (c : Thread nD τ) arg6 fullShare (stepA i x0 x1 A) ∗ owns (c : Thread nD τ) arg7 fullShare (stepB i (stepA i x0 x1 A) B)) -∗ K ⟨⟩))
          ⊢ wp frame (wpE (defs₀ (F := F)) Variants.none c none) E (cc0_gram_bmat i tbM0 (Memref.isWhole_whole _) tbM1 (Memref.isWhole_whole _) arg4 harg4 arg5 harg5 arg6 harg6 arg7 harg7) K := by
  simp only [cc0_gram_bmat_eq_skeleton]; unfold cc0_gram_bmat_skel
  simp only [k0_part1_eq_skeleton, k0_part2_eq_skeleton, k0_part3_eq_skeleton, k0_part4_eq_skeleton, k0_part5_eq_skeleton, k0_part6_eq_skeleton]
  unfold owns
  iintro ⟨T0, T1, ⟨%f0, %hf0, H0⟩, ⟨%f1, %hf1, H1⟩, ⟨%f2, %hf2, H2⟩, ⟨%f3, %hf3, H3⟩, Hk⟩
  have hx0 : View.readAt (Elt F) arg4.view (Rect.unit ![0, 0, 0] S1x512x7168.size inb_S1x512x7168_S1x512x7168_0_0_0).toLoadRect f0 = x0 := by
    rw [View.readAt_eq_ld, hf0]; exact View.ld_unit_lit (S := S1x512x7168) inb_S1x512x7168_S1x512x7168_0_0_0 _ (by decide)
  have hx1 : View.readAt (Elt F) arg5.view (Rect.unit ![0, 0, 0] S1x512x7168.size inb_S1x512x7168_S1x512x7168_0_0_0).toLoadRect f1 = x1 := by
    rw [View.readAt_eq_ld, hf1]; exact View.ld_unit_lit (S := S1x512x7168) inb_S1x512x7168_S1x512x7168_0_0_0 _ (by decide)
  have hB : ¬ k0_cond2 i = 1#1 → stepB i (stepA i x0 x1 A) B = B := fun h => if_neg fun e => h ((cond2_iff i).2 e)
  have hB' : k0_cond2 i = 1#1 → stepB i (stepA i x0 x1 A) B = bmat (stepA i x0 x1 A) := fun h => if_pos ((cond2_iff i).1 h)
  by_cases hne : rowTab (i 1) ≠ colTab (i 1)
  · have hc1 : k0_cond1 (wordI F i) (wordJ F i) = 1#1 := (cond1_at i).2 hne
    have hl : ¬ k0_cond2 i = 1#1 := fun h => off_not_last _ ((cond2_iff i).1 h) hne
    sl_exec (disch := first | ((with_reducible show k0_chk1 _); exact chk1_at (F := F) i) | ((with_reducible show k0_chk2 _ _); exact chk2_at (F := F) i) | ((with_reducible show k0_cond1 _ _ = 1#1); exact hc1))
    sl_step
    iapply Hk
    isplitl [T0]
    · iexact T0
    isplitl [T1]
    · iexact T1
    isplitl [H0]
    · iexists _; isplitr; · ipureintro; exact hf0
      iexact H0
    isplitl [H1]
    · iexists _; isplitr; · ipureintro; exact hf1
      iexact H1
    isplitl [H2]
    · iexists _; isplitr
      · ipureintro
        exact read_off (F := F) arg6.view f2 (rowTab (i 1)) (colTab (i 1)) hne (k0_off2 (wordI F i) (wordJ F i)) (k0_off3 (wordI F i) (wordJ F i)) (off2_at (F := F) i)
          (off3_at (F := F) i) (k0_off2_inb _ _ (chk2_at (F := F) i)) (k0_off3_inb _ _ (chk2_at (F := F) i) hc1) (k0_pay2 x0 x1) (k0_pay3 x0 x1) A hf2
      iexact H2
    iexists _; isplitr; · ipureintro; exact hf3.trans (hB hl).symm
    iexact H3
  · have hc1 : ¬ k0_cond1 (wordI F i) (wordJ F i) = 1#1 := mt (cond1_at i).1 hne
    have hA := read_on (F := F) arg6.view f2 (rowTab (i 1)) (colTab (i 1)) (not_not.1 hne)
      (k0_off2 (wordI F i) (wordJ F i)) (off2_at (F := F) i) (k0_off2_inb _ _ (chk2_at (F := F) i)) (k0_pay2 x0 x1) (k0_pay3 x0 x1) A hf2
    have hP := read_pieces arg7.view f3 (View.read (Elt F) arg6.view (arg6.view.writes (Elt F) f2 [⟨Rect.unit (k0_off2 (wordI F i) (wordJ F i)) S1x512x512.size
        (k0_off2_inb _ _ (chk2_at (F := F) i)), k0_pay2 x0 x1⟩])) _ _ _ _ _ _ _ _ _ _ _ _ _ _ _ _
      (bTile_ld _ 3 3) (bMirror_ld _ 2 3) (bTile_ld _ 2 3) (bTile_ld _ 2 2) (bMirror_ld _ 1 3) (bTile_ld _ 1 3) (bMirror_ld _ 1 2) (bTile_ld _ 1 2) (bTile_ld _ 1 1) (bMirror_ld _ 0 3) (bTile_ld _ 0 3) (bMirror_ld _ 0 2) (bTile_ld _ 0 2) (bMirror_ld _ 0 1) (bTile_ld _ 0 1) (bTile_ld _ 0 0)
    by_cases hl : k0_cond2 i = 1#1
    · sl_exec (disch := first | ((with_reducible show k0_chk1 _); exact chk1_at (F := F) i) | ((with_reducible show k0_chk2 _ _); exact chk2_at (F := F) i) | ((with_reducible show ¬ k0_cond1 _ _ = 1#1); exact hc1))
      sl_step
      iapply Hk
      isplitl [T0]
      · iexact T0
      isplitl [T1]
      · iexact T1
      isplitl [H0]
      · iexists _; isplitr; · ipureintro; exact hf0
        iexact H0
      isplitl [H1]
      · iexists _; isplitr; · ipureintro; exact hf1
        iexact H1
      isplitl [H2]
      · iexists _; isplitr
        · ipureintro; exact hA
        iexact H2
      iexists _; isplitr
      · ipureintro
        rw [hB' hl]
        exact hP.trans (congrArg bmat hA)
      iexact H3
    · sl_exec (disch := first | ((with_reducible show k0_chk1 _); exact chk1_at (F := F) i) | ((with_reducible show k0_chk2 _ _); exact chk2_at (F := F) i) | ((with_reducible show ¬ k0_cond1 _ _ = 1#1); exact hc1))
      sl_step
      iapply Hk
      isplitl [T0]
      · iexact T0
      isplitl [T1]
      · iexact T1
      isplitl [H0]
      · iexists _; isplitr; · ipureintro; exact hf0
        iexact H0
      isplitl [H1]
      · iexists _; isplitr; · ipureintro; exact hf1
        iexact H1
      isplitl [H2]
      · iexists _; isplitr
        · ipureintro
          exact hA
        iexact H2
      iexists _; isplitr; · ipureintro; exact hf3.trans (hB hl).symm
      iexact H3

end Cert.GramIdeal.Hand
-- ==== Proof.Gram.Steps.lean ====
/- How the products call's first result block fills up over a batch's ten steps: after step `s` every tile that a step up to
   `s` wrote holds the products of its two blocks of rows, and after the last step every tile does. -/
module

public import proofs.«01_k».proof.Proof.Gram.Body

@[expose] public section

set_option maxRecDepth 16384

noncomputable section

namespace Cert.GramIdeal.Hand

open Idealize.ShloMosaic Idealize.ShloMosaic.TcCoe Idealize.ShloMosaic.Tactic
open Cert.GramIdeal Cert.GramIdeal.Gen

variable {F : FTy → Type} [FloatOps F]

/-- Rows `512 p .. 512 p + 511` of batch `b` of `x`. -/
def xRows (x : Vec F S4x2048x7168 .bf16) (b : Fin 4) (p : Fin 4) : Vec F S1x512x7168 .bf16 :=
  fun z => x (ix3 b (at_ p (z 1)) (z 2))

/-- Batch `b`'s products: on and above the diagonal a tile is the product of its two blocks of rows, below it the mirror
    that the body stores there. -/
def prod (x : Vec F S4x2048x7168 .bf16) (b : Fin 4) : Vec F S1x2048x2048 .bf16 :=
  fun y => if tl (y 1) ≤ tl (y 2) then k0_pay2 (xRows x b (tl (y 1))) (xRows x b (tl (y 2))) (loc y)
    else k0_pay3 (xRows x b (tl (y 2))) (xRows x b (tl (y 1))) (loc y)

/-- Tile `(p, q)` is written by a step up to `n`. -/
def Written (n : ℕ) (p q : Fin 4) : Prop :=
  ∃ k : Fin 10, k.val ≤ n ∧ ((rowTab k = p ∧ colTab k = q) ∨ (rowTab k = q ∧ colTab k = p))

/-- The steps walk the tiles on and above the diagonal. -/
theorem row_le_col : ∀ k : Fin 10, rowTab k ≤ colTab k := by decide

/-- Every tile is written by the last step. -/
theorem all_written : ∀ p q : Fin 4, Written 9 p q := by unfold Written; decide

/-- Block `A` holds batch `b`'s products at every tile that a step up to `n` wrote. -/
def Holds (x : Vec F S4x2048x7168 .bf16) (b : Fin 4) (n : ℕ) (A : Vec F S1x2048x2048 .bf16) : Prop :=
  ∀ y : S1x2048x2048.Idx, Written n (tl (y 1)) (tl (y 2)) → A y = prod x b y

/-- A step adds its tile and the mirror. -/
theorem holds_upd (x : Vec F S4x2048x7168 .bf16) (b : Fin 4) (s : Fin 10) (A : Vec F S1x2048x2048 .bf16)
    (hA : s.val ≠ 0 → Holds x b (s.val - 1) A) :
    Holds x b s.val (upd (rowTab s) (colTab s) (k0_pay2 (xRows x b (rowTab s)) (xRows x b (colTab s)))
      (k0_pay3 (xRows x b (rowTab s)) (xRows x b (colTab s))) A) := by
  intro y ⟨k, hk, hy⟩
  have hle := row_le_col s
  unfold upd
  split
  · rename_i h
    unfold prod
    rw [h.1, h.2, if_pos hle]
  · rename_i h
    split
    · rename_i h'
      have hne : ¬ colTab s ≤ rowTab s := fun hh => h ⟨by rw [h'.1]; exact le_antisymm hh hle, by rw [h'.2]; exact le_antisymm hle hh⟩
      unfold prod
      rw [h'.1, h'.2, if_neg hne]
    · rename_i h'
      have hks : k ≠ s := by
        rintro rfl
        rcases hy with ⟨h1, h2⟩ | ⟨h1, h2⟩
        · exact h ⟨h1.symm, h2.symm⟩
        · exact h' ⟨h2.symm, h1.symm⟩
      have hlt : k.val < s.val := lt_of_le_of_ne hk (fun e => hks (Fin.ext e))
      exact hA (by omega) y ⟨k, by omega, hy⟩

/-- After the last step the block is the batch's products. -/
theorem holds_last (x : Vec F S4x2048x7168 .bf16) (b : Fin 4) (A : Vec F S1x2048x2048 .bf16) (h : Holds x b 9 A) :
    A = prod x b :=
  funext fun y => h y (all_written _ _)

end Cert.GramIdeal.Hand
-- ==== Proof.Gram.Frame.lean ====
/- The products call's run: from any memory every execution ends, the first result's block of each batch holds the batch's
   products, the second's what the body makes of them at the batch's last step, and `x` is unchanged. -/
module

public import proofs.«01_k».proof.Proof.Gram.Steps
public import proofs.«01_k».proof.Proof.Gen.GramIdeal.Launch
public import Idealize.ShloMosaic.Lib.Pipeline.DatRel
public import Idealize.ShloMosaic.Lib.Pipeline.ArrRel
public import Idealize.ShloMosaic.Lib.Pipeline.Frame
public import Idealize.ShloMosaic.Lib.Claim

@[expose] public section

set_option maxRecDepth 16384

noncomputable section

namespace Cert.GramIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)
open Cert.GramIdeal Cert.GramIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory at the call, and the blocks -/

/-- The buffers' contents at the call. -/
def V (c : Dev nD) (b : Ref sig .tc) : Buf (Elt F) ((c.tc : Thread nD τ).loc b) :=
  StableHlo.after hostOps0 (fun b => m (c, b)) b

/-- `x` on core `c`. -/
abbrev xOf (c : Dev nD) : Vec F S4x2048x7168 .bf16 := m ((c.tc : Thread nD τ).loc main_arg0)

theorem V_x (c : Dev nD) : V m c main_arg0 = xOf m c := rfl
theorem V_tab0 (c : Dev nD) : V m c main_c = tab (F := F) 0 := rfl
theorem V_tab1 (c : Dev nD) : V m c main_c_0 = tab (F := F) 1 := rfl

/-- A step's coordinates: its batch and its number in the batch. -/
theorem coords_val : ∀ t : Fin grid0.N, (grid0.coords t 0).val = t.val / 10 ∧ (grid0.coords t 1).val = t.val % 10 := by
  decide +kernel

/-- Batch and step number of a grid point. -/
abbrev bt (t : Fin grid0.N) : Fin 4 := grid0.coords t 0
abbrev st (t : Fin grid0.N) : Fin 10 := grid0.coords t 1

/-- What a window's block of its array holds at the call. -/
def iblk (c : Dev nD) (w : Fin 4) (t : Fin (cfgT (F := F)).N) :
    (((cfgT (F := F)).win w).xblock ((cfgT (F := F)).grid.coords t)).Idx → Elt F ((cfgT (F := F)).win w).elt :=
  (((cfgT (F := F)).win w).blk t).view.read (Elt F) (V m c (Pipeline.arrRef spec0 w))

theorem iblk0 (c : Dev nD) (t : Fin grid0.N) : iblk m c 0 t = xRows (xOf m c) (bt t) (rowTab (st t)) := by
  funext z
  have h := map0_eq (F := F) (grid0.coords t)
  refine congrArg (xOf m c) (funext fun a => Fin.ext ?_)
  refine (Window.rect_emb_val ((cfgT (F := F)).win 0) t z a rfl).trans ?_
  show cc0_transform_0 k0_off1_inb numel1_S1 (tab (F := F)) (grid0.coords t) a * S1x512x7168.size a + (z a).val = _
  rw [h]
  have hz : (z 0).val = 0 := Nat.lt_one_iff.mp (z 0).isLt
  match a with
  | ⟨0, _⟩ => show (grid0.coords t 0).val * 1 + (z 0).val = (grid0.coords t 0).val; omega
  | ⟨1, _⟩ => show (rowTab (grid0.coords t 1)).val * 512 + (z 1).val = 512 * (rowTab (st t)).val + (z 1).val; rw [Nat.mul_comm]
  | ⟨2, _⟩ => show 0 * 7168 + (z 2).val = (z 2).val; omega

theorem iblk1 (c : Dev nD) (t : Fin grid0.N) : iblk m c 1 t = xRows (xOf m c) (bt t) (colTab (st t)) := by
  funext z
  have h := map1_eq (F := F) (grid0.coords t)
  refine congrArg (xOf m c) (funext fun a => Fin.ext ?_)
  refine (Window.rect_emb_val ((cfgT (F := F)).win 1) t z a rfl).trans ?_
  show cc0_transform_1 k0_off1_inb numel1_S1 (tab (F := F)) (grid0.coords t) a * S1x512x7168.size a + (z a).val = _
  rw [h]
  have hz : (z 0).val = 0 := Nat.lt_one_iff.mp (z 0).isLt
  match a with
  | ⟨0, _⟩ => show (grid0.coords t 0).val * 1 + (z 0).val = (grid0.coords t 0).val; omega
  | ⟨1, _⟩ => show (colTab (grid0.coords t 1)).val * 512 + (z 1).val = 512 * (colTab (st t)).val + (z 1).val; rw [Nat.mul_comm]
  | ⟨2, _⟩ => show 0 * 7168 + (z 2).val = (z 2).val; omega

/-! ## Which steps write back -/

theorem flush2 (t : Fin (cfgT (F := F)).N) : ((cfgT (F := F)).win 2).flush t = true ↔ t.val % 10 = 9 :=
  Pipeline.Window.flush_reads ((cfgT (F := F)).win 2) rfl 0 (show 1 < grid0.bound 0 by decide)
    (show grid0.fixedAfter reads0_2 0 = true by decide)
    (Pipeline.Window.sep_of_coord cc0_transform_2 0 0 (fun _ => rfl) (by decide)) (P := 10) (m := 9)
    (show grid0.stride 0 = 10 by decide) rfl t

theorem flush3 (t : Fin (cfgT (F := F)).N) : ((cfgT (F := F)).win 3).flush t = true ↔ t.val % 10 = 9 :=
  Pipeline.Window.flush_reads ((cfgT (F := F)).win 3) rfl 0 (show 1 < grid0.bound 0 by decide)
    (show grid0.fixedAfter reads0_3 0 = true by decide)
    (Pipeline.Window.sep_of_coord cc0_transform_3 0 0 (fun _ => rfl) (by decide)) (P := 10) (m := 9)
    (show grid0.stride 0 = 10 by decide) rfl t

/-! ## The proof data -/

/-- The windows whose contents are followed by a property: the two results. -/
abbrev fgt : Fin 4 → Bool := ![false, false, true, true]

/-- What a result's block meets after a step: the first holds the products of every tile written so far in the batch; the
    second, at the batch's last step, what the body makes of the batch's products. -/
def Rl (c : Dev nD) (w : Fin (cfgT (F := F)).W) (t : Fin (cfgT (F := F)).N) :
    (((cfgT (F := F)).win w).block.Idx → Elt F ((cfgT (F := F)).win w).elt) → Prop :=
  match w with
  | ⟨0, _⟩ => fun _ => True
  | ⟨1, _⟩ => fun _ => True
  | ⟨2, _⟩ => fun X => Holds (xOf m c) (bt t) (st t).val X
  | ⟨3, _⟩ => fun X => (st t).val = 9 → X = bmat (prod (xOf m c) (bt t))

/-- The proof data: the arrays as the call finds them; an input's buffer keeps its block. -/
def dats (c : Dev nD) : Dat τ (Elt F) Unit ℕ (UR sig nD τ) ℕ (cfgT (F := F)) c where
  A w := V m c (Pipeline.arrRef spec0 w)
  after w t := match w with
    | ⟨0, _⟩ => iblk m c 0 t
    | ⟨1, _⟩ => iblk m c 1 t
    | ⟨2, _⟩ => prod (xOf m c) (bt t)
    | ⟨3, _⟩ => bmat (prod (xOf m c) (bt t))
  Φ _ := iprop(Pipeline.ΦA spec0 c ∗ Pipeline.ΦT pre0 (tab (F := F)) c)
  q := Pipeline.shareOf spec0
  owed _ := 0

theorem A_eq (c : Dev nD) (w : Fin (cfgT (F := F)).W) : (dats m c).A w = V m c (Pipeline.arrRef spec0 w) := by
  dsimp only [dats]
theorem after0 (c : Dev nD) (t : Fin (cfgT (F := F)).N) : (dats m c).after 0 t = iblk m c 0 t := rfl
theorem after1 (c : Dev nD) (t : Fin (cfgT (F := F)).N) : (dats m c).after 1 t = iblk m c 1 t := rfl

theorem before0 (c : Dev nD) (t : Fin (cfgT (F := F)).N) (d) : (dats m c).before 0 t d = iblk m c 0 t :=
  ((dats m c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin (cfgT (F := F)).N) (d) : (dats m c).before 1 t d = iblk m c 1 t :=
  ((dats m c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- After the batch's first step the first result's block is found as the step before left it. -/
theorem found (c : Dev nD) (t : Fin (cfgT (F := F)).N) (Y)
    (h : ((dats m c).toRRel fgt (Rl m c)).Finds 2 t Y) (hs : (st t).val ≠ 0) :
    Holds (xOf m c) (bt t) ((st t).val - 1) Y := by
  obtain ⟨h0, h1⟩ := coords_val t
  have ht : t.val ≠ 0 := fun e => hs (by rw [show (st t).val = t.val % 10 from h1, e])
  have hlt : t.val - 1 < (cfgT (F := F)).N := by have := t.isLt; omega
  have hf : ((cfgT (F := F)).win 2).fetch t = false := rfl
  have hfl : ((cfgT (F := F)).win 2).flush ⟨t.val - 1, hlt⟩ ≠ true := fun e => by
    have := (flush2 ⟨t.val - 1, hlt⟩).mp e
    have h2 : (st t).val = t.val % 10 := h1
    dsimp only at this
    omega
  have hl := ((RDat.finds_of_pos _ hf ht Y).mp h).resolve_left hfl
  have hr : Rl m c 2 ⟨t.val - 1, hlt⟩ Y := Dat.toRRel_leaves _ rfl hl
  obtain ⟨h2, h3⟩ := coords_val ⟨t.val - 1, hlt⟩
  have hr' : Holds (xOf m c) (bt ⟨t.val - 1, hlt⟩) (st ⟨t.val - 1, hlt⟩).val Y := hr
  have e1 : st t = (grid0.coords t 1) := rfl
  have eb : bt ⟨t.val - 1, hlt⟩ = bt t := Fin.ext (by
    show (grid0.coords ⟨t.val - 1, hlt⟩ 0).val = (grid0.coords t 0).val
    rw [h2, h0]; have : (st t).val = t.val % 10 := h1; dsimp only; omega)
  have es : (st ⟨t.val - 1, hlt⟩).val = (st t).val - 1 := by
    show (grid0.coords ⟨t.val - 1, hlt⟩ 1).val = (grid0.coords t 1).val - 1
    rw [h3, h1]; have : (st t).val = t.val % 10 := h1; dsimp only; omega
  rw [eb, es] at hr'
  exact hr'

/-! ## The body obligation -/

abbrev ms0 (t : Fin (cfgT (F := F)).N) := ((cfgT (F := F)).win 0).stage ((cfgT (F := F)).slots t 0)
abbrev ms1 (t : Fin (cfgT (F := F)).N) := ((cfgT (F := F)).win 1).stage ((cfgT (F := F)).slots t 1)
abbrev ms2 (t : Fin (cfgT (F := F)).N) := ((cfgT (F := F)).win 2).stage ((cfgT (F := F)).slots t 2)
abbrev ms3 (t : Fin (cfgT (F := F)).N) := ((cfgT (F := F)).win 3).stage ((cfgT (F := F)).slots t 3)

/-- The body at a step, on what the pipeline calls it with. -/
abbrev bodyAt (t : Fin (cfgT (F := F)).N) : Prog (TpuEff nD τ sig (Elt F) Λ₀ .tc) PUnit :=
  cc0_gram_bmat (grid0.coords t) tbM0 (Memref.isWhole_whole _) tbM1 (Memref.isWhole_whole _)
    (ms0 t) (hstage0_0 (((cfgT (F := F)).slots t 0).cast nbuf0_0)) (ms1 t) (hstage0_1 (((cfgT (F := F)).slots t 1).cast nbuf0_1))
    (ms2 t) (hstage0_2 (((cfgT (F := F)).slots t 2).cast nbuf0_2)) (ms3 t) (hstage0_3 (((cfgT (F := F)).slots t 3).cast nbuf0_3))

/-- What the body is called with, -/
def bodyPre (c : Dev nD) (t : Fin (cfgT (F := F)).N) : sProp 𝕄 :=
  iprop((dats m c).Φ t.castSucc ∗ (dats m c).owesAt () t.castSucc
    ∗ (∃ d, owns (c : Thread nD τ) (ms0 t) fullShare ((dats m c).before 0 t d))
    ∗ (∃ d, owns (c : Thread nD τ) (ms1 t) fullShare ((dats m c).before 1 t d))
    ∗ (∃ Y, ⌜((dats m c).toRRel fgt (Rl m c)).Finds 2 t Y⌝ ∗ owns (c : Thread nD τ) (ms2 t) fullShare Y)
    ∗ (∃ Y, ⌜((dats m c).toRRel fgt (Rl m c)).Finds 3 t Y⌝ ∗ owns (c : Thread nD τ) (ms3 t) fullShare Y))

/-- and what it returns. -/
def bodyPost (c : Dev nD) (t : Fin (cfgT (F := F)).N) : sProp 𝕄 :=
  iprop((dats m c).Φ t.succ ∗ (dats m c).owesAt () t.succ
    ∗ owns (c : Thread nD τ) (ms0 t) fullShare ((dats m c).after 0 t)
    ∗ owns (c : Thread nD τ) (ms1 t) fullShare ((dats m c).after 1 t)
    ∗ (∃ X, ⌜Rl m c 2 t X⌝ ∗ owns (c : Thread nD τ) (ms2 t) fullShare X)
    ∗ (∃ X, ⌜Rl m c 3 t X⌝ ∗ owns (c : Thread nD τ) (ms3 t) fullShare X))

/-- The tables' part of the invariant, table by table. -/
theorem tables_eq (c : Dev nD) : (Pipeline.ΦT pre0 (tab (F := F)) c : sProp 𝕄)
    = iprop(tbPt c tbM0 (tab 0) ∗ tbPt c tbM1 (tab 1)) := by
  unfold Pipeline.ΦT Pipeline.prefHeld
  rw [show (Finset.univ : Finset (Fin 2)) = insert (0 : Fin 2) {(1 : Fin 2)} from by decide, bigSep_insert (by decide), bigSep_singleton]
  rfl

/-- What a step leaves in the first result's block meets its property, -/
theorem leaves2 (c : Dev nD) (t : Fin (cfgT (F := F)).N) (A : Vec F S1x2048x2048 .bf16)
    (h : ((dats m c).toRRel fgt (Rl m c)).Finds 2 t A) :
    Holds (xOf m c) (bt t) (st t).val (stepA (grid0.coords t) (iblk m c 0 t) (iblk m c 1 t) A) := by
  unfold stepA
  rw [iblk0, iblk1]
  exact holds_upd (xOf m c) (bt t) (st t) A (found m c t A h)

/-- and so does what it leaves in the second's. -/
theorem leaves3 (c : Dev nD) (t : Fin (cfgT (F := F)).N) (A B : Vec F S1x2048x2048 .bf16)
    (h : Holds (xOf m c) (bt t) (st t).val A) (hs : (st t).val = 9) :
    stepB (grid0.coords t) A B = bmat (prod (xOf m c) (bt t)) := by
  unfold stepB
  rw [if_pos hs]
  rw [hs] at h
  exact congrArg bmat (holds_last _ _ _ h)

theorem sound_body (c : Dev nD) (t : Fin (cfgT (F := F)).N) :
    bodyPre m c t ⊢ wp frame (wpE (defs₀ (F := F)) Variants.none c none) Set.univ (bodyAt t) (fun _ => bodyPost m c t) := by
  unfold bodyPre bodyPost
  simp only [before0, before1]
  rw [show (dats m c).Φ t.succ = (dats m c).Φ t.castSucc from rfl,
    show (dats m c).owesAt () t.succ = (dats m c).owesAt () t.castSucc from rfl, after0, after1,
    show (dats m c).Φ t.castSucc = iprop(Pipeline.ΦA spec0 c ∗ Pipeline.ΦT pre0 (tab (F := F)) c) from rfl, tables_eq]
  iintro ⟨⟨HΦ, HT0, HT1⟩, Ho, ⟨%d0, H0⟩, ⟨%d1, H1⟩, ⟨%A, %hA, H2⟩, ⟨%B, %hB, H3⟩⟩
  iapply (run c (grid0.coords t) _ _ _ _ _ _ _ _ (iblk m c 0 t) (iblk m c 1 t) A B Set.univ _)
  isplitl [HT0]; · iexact HT0
  isplitl [HT1]; · iexact HT1
  isplitl [H0]; · iexact H0
  isplitl [H1]; · iexact H1
  isplitl [H2]; · iexact H2
  isplitl [H3]; · iexact H3
  iintro ⟨HT0, HT1, H0, H1, H2, H3⟩
  have h2 := leaves2 m c t A hA
  have h3 := leaves3 m c t _ B h2
  isplitl [HΦ HT0 HT1]
  · isplitl [HΦ]; · iexact HΦ
    isplitl [HT0]; · iexact HT0
    iexact HT1
  isplitl [Ho]; · iexact Ho
  isplitl [H0]; · iexact H0
  isplitl [H1]; · iexact H1
  isplitl [H2]
  · iexists (stepA (grid0.coords t) (iblk m c 0 t) (iblk m c 1 t) A)
    isplitr
    · ipureintro; exact h2
    · iexact H2
  · iexists (stepB (grid0.coords t) (stepA (grid0.coords t) (iblk m c 0 t) (iblk m c 1 t) A) B)
    isplitr
    · ipureintro; exact h3
    · iexact H3

theorem defs₀_row (t : Fin (cfgT (F := F)).N) :
    defs₀ (F := F) .tc (cfgT (F := F)).body ((cfgT (F := F)).bodyArgs t ((cfgT (F := F)).slots t)) = bodyAt t := by
  unfold defs₀; rw [Defs.onTc_tc]; rfl

theorem body_obligation (c : Dev nD) :
    BodyObligationRel (dats m c) (defs₀ (F := F)) Variants.none () Set.univ fgt (Rl m c) := fun t => by
  rw [bigSep_W0, bigSep_W0, defs₀_row]
  exact triple_restated (sound_body m c t) rfl .rfl fun _ => .rfl

/-! ## The launch -/

/-- The first result: every batch's products. -/
def prods (x : Vec F S4x2048x7168 .bf16) : Vec F S4x2048x2048 .bf16 :=
  fun i => prod x (i 0) (ix3 (0 : Fin 1) (i 1) (i 2))

/-- The second result: what the body makes of them. -/
def bmats (x : Vec F S4x2048x7168 .bf16) : Vec F S4x2048x2048 .bf16 :=
  fun i => bmat (prod x (i 0)) (ix3 (0 : Fin 1) (i 1) (i 2))

/-- The last step of batch `b`. -/
def lastOf (b : Fin 4) : Fin (cfgT (F := F)).N := ⟨10 * b.val + 9, by show _ < grid0.N; rw [N_0]; omega⟩

set_option backward.isDefEq.respectTransparency.types false in
theorem run_post : θ_run defs (onTc (τ := τ) (main (F := F))) ⟨m, fun _ => 0, ρ⟩
    (fun r => RDat.FramePost (cfgT (F := F)) (fun c => (dats m c).toRRel fgt (Rl m c)) (V m) r ∧ r.2.sem = fun _ => 0) :=
  Pipeline.RDat.θ_run_frameP_track_shared (Q' := _) pcfgs adm (0 : Fin 1) launch₀0 defs₀ Variants.none
    (fun c => (dats m c).toRRel fgt (Rl m c)) m ρ main
    (hbody := fun c => BodyObligationRel.toRRel (dats m c) (body_obligation m c))
    (hq := fun _ _ _ => rfl) (howed := fun _ _ => rfl) (V := V m)
    (hmain := Pipeline.hmainP_prefix pcfgs 0 defs₀ Variants.none m main hostOps0 hostOps0_sub ⟨rfl, rfl⟩ main_chain)
    (hA := A_eq m) (hpf := fun c k => match k with | 0 => V_tab0 m c | 1 => V_tab1 m c)
    (hin := fun _ => .rfl) (hout := fun c => by
      show iprop(Pipeline.ΦA spec0 c ∗ Pipeline.ΦT pre0 (tab (F := F)) c) ⊢ Pipeline.ΦA spec0 c
      iintro ⟨H, -⟩; iexact H)

/-! ## The arrays at the end -/

/-- Where an entry of a result's block lies in its array. -/
theorem emb2 (t : Fin (cfgT (F := F)).N) (y : S1x2048x2048.Idx) :
    (((cfgT (F := F)).win 2).blk t).view.emb y = ix3 (bt t) (y 1) (y 2) := by
  funext a
  refine Fin.ext ?_
  refine (Window.rect_emb_val ((cfgT (F := F)).win 2) t y a rfl).trans ?_
  have hy : (y 0).val = 0 := Nat.lt_one_iff.mp (y 0).isLt
  have hc : cc0_transform_2 (grid0.coords t) = ![(grid0.coords t 0).val, 0, 0] :=
    (by decide +kernel : ∀ i : grid0.Coords, cc0_transform_2 i = ![(i 0).val, 0, 0]) _
  show cc0_transform_2 (grid0.coords t) a * S1x2048x2048.size a + (y a).val = _
  rw [hc]
  match a with
  | ⟨0, _⟩ => show (grid0.coords t 0).val * 1 + (y 0).val = (grid0.coords t 0).val; omega
  | ⟨1, _⟩ => show 0 * 2048 + (y 1).val = (y 1).val; omega
  | ⟨2, _⟩ => show 0 * 2048 + (y 2).val = (y 2).val; omega

theorem emb3 (t : Fin (cfgT (F := F)).N) (y : S1x2048x2048.Idx) :
    (((cfgT (F := F)).win 3).blk t).view.emb y = ix3 (bt t) (y 1) (y 2) := by
  funext a
  refine Fin.ext ?_
  refine (Window.rect_emb_val ((cfgT (F := F)).win 3) t y a rfl).trans ?_
  have hy : (y 0).val = 0 := Nat.lt_one_iff.mp (y 0).isLt
  have hc : cc0_transform_3 (grid0.coords t) = ![(grid0.coords t 0).val, 0, 0] :=
    (by decide +kernel : ∀ i : grid0.Coords, cc0_transform_3 i = ![(i 0).val, 0, 0]) _
  show cc0_transform_3 (grid0.coords t) a * S1x2048x2048.size a + (y a).val = _
  rw [hc]
  match a with
  | ⟨0, _⟩ => show (grid0.coords t 0).val * 1 + (y 0).val = (grid0.coords t 0).val; omega
  | ⟨1, _⟩ => show 0 * 2048 + (y 1).val = (y 1).val; omega
  | ⟨2, _⟩ => show 0 * 2048 + (y 2).val = (y 2).val; omega

theorem lastOf_mod (b : Fin 4) : (lastOf (F := F) b).val % 10 = 9 := by show (10 * b.val + 9) % 10 = 9; omega

theorem bt_lastOf (b : Fin 4) : bt (lastOf (F := F) b) = b :=
  Fin.ext (((coords_val (lastOf (F := F) b)).1).trans (by show (10 * b.val + 9) / 10 = b.val; omega))

theorem st_of_flush (t : Fin (cfgT (F := F)).N) (h : t.val % 10 = 9) : (st t).val = 9 :=
  (coords_val t).2.trans h

/-- The batches' last steps write the whole array back. -/
theorem cover2 (i : S4x2048x2048.Idx) :
    ∃ t : Fin (cfgT (F := F)).N, ((cfgT (F := F)).win 2).flush t = true ∧ i ∈ (((cfgT (F := F)).win 2).blk t).view.set := by
  refine ⟨lastOf (i 0), (flush2 _).mpr (lastOf_mod _), ?_⟩
  have h : (((cfgT (F := F)).win 2).blk (lastOf (i 0))).view.emb (ix3 (0 : Fin 1) (i 1) (i 2)) = i := by
    refine (emb2 _ _).trans (funext fun a => ?_)
    match a with
    | ⟨0, _⟩ => exact bt_lastOf (F := F) (i 0)
    | ⟨1, _⟩ => rfl
    | ⟨2, _⟩ => rfl
  have h2 := View.emb_mem_set (((cfgT (F := F)).win 2).blk (lastOf (i 0))).view (ix3 (0 : Fin 1) (i 1) (i 2))
  rw [h] at h2
  exact h2

theorem cover3 (i : S4x2048x2048.Idx) :
    ∃ t : Fin (cfgT (F := F)).N, ((cfgT (F := F)).win 3).flush t = true ∧ i ∈ (((cfgT (F := F)).win 3).blk t).view.set := by
  refine ⟨lastOf (i 0), (flush3 _).mpr (lastOf_mod _), ?_⟩
  have h : (((cfgT (F := F)).win 3).blk (lastOf (i 0))).view.emb (ix3 (0 : Fin 1) (i 1) (i 2)) = i := by
    refine (emb3 _ _).trans (funext fun a => ?_)
    match a with
    | ⟨0, _⟩ => exact bt_lastOf (F := F) (i 0)
    | ⟨1, _⟩ => rfl
    | ⟨2, _⟩ => rfl
  have h2 := View.emb_mem_set (((cfgT (F := F)).win 3).blk (lastOf (i 0))).view (ix3 (0 : Fin 1) (i 1) (i 2))
  rw [h] at h2
  exact h2

theorem ix_self (y : S1x2048x2048.Idx) : y = ix3 (0 : Fin 1) (y 1) (y 2) := by
  funext a
  match a with
  | ⟨0, _⟩ => exact Fin.ext (Nat.lt_one_iff.mp (y 0).isLt)
  | ⟨1, _⟩ => rfl
  | ⟨2, _⟩ => rfl

/-- THE RUN: every execution ends with the results holding the products and what the body makes of them, and with `x`
    unchanged. -/
theorem run_main : θ_run defs (onTc (τ := τ) (main (F := F))) ⟨m, fun _ => 0, ρ⟩ (fun r => (∀ c : Dev nD,
      r.2.mem ((c.tc : Thread nD τ).loc main_v0_0) = prods (xOf m c)
      ∧ r.2.mem ((c.tc : Thread nD τ).loc main_v0_1) = bmats (xOf m c)
      ∧ r.2.mem ((c.tc : Thread nD τ).loc main_arg0) = m ((c.tc : Thread nD τ).loc main_arg0))
      ∧ r.2.sem = fun _ => 0) := by
  refine (θ_run defs _ _).mono (fun r h => ⟨fun c => ?_, h.2⟩) (run_post m ρ)
  obtain ⟨after, hL, hA⟩ := RDat.FramePost.exists_exact h.1 c
  refine ⟨(hA 2).trans ?_, (hA 3).trans ?_, RDat.FramePost.arr_in h.1 c 0 rfl⟩
  · refine Dat.arrAt_eq_of_emb (((dats m c).toRRel fgt (Rl m c)).withAfter after) 2 (prods (xOf m c)) (fun t hf y => ?_) cover2
    have h9 := st_of_flush t ((flush2 t).mp hf)
    have hl : Holds (xOf m c) (bt t) (st t).val (after 2 t) := Dat.toRRel_leaves (dats m c) (w := 2) rfl (hL 2 t hf)
    rw [h9] at hl
    have he := emb2 (F := F) t y
    have hv : after 2 t = prod (xOf m c) (bt t) := holds_last _ _ _ hl
    refine (congrFun hv y).trans ?_
    refine Eq.trans ?_ (congrArg (prods (xOf m c)) he).symm
    exact congrArg (prod (xOf m c) (bt t)) (ix_self y)
  · refine Dat.arrAt_eq_of_emb (((dats m c).toRRel fgt (Rl m c)).withAfter after) 3 (bmats (xOf m c)) (fun t hf y => ?_) cover3
    have h9 := st_of_flush t ((flush3 t).mp hf)
    have hl : (st t).val = 9 → after 3 t = bmat (prod (xOf m c) (bt t)) := Dat.toRRel_leaves (dats m c) (w := 3) rfl (hL 3 t hf)
    have he := emb3 (F := F) t y
    have hv := hl h9
    refine (congrFun hv y).trans ?_
    refine Eq.trans ?_ (congrArg (bmats (xOf m c)) he).symm
    exact congrArg (bmat (prod (xOf m c) (bt t))) (ix_self y)

/-- THE FRAME: every execution ends with `x` unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => (h.1 c).2.2, h.2⟩) (run_main m ρ)

end Cert.GramIdeal.Hand
-- ==== Proof.Gram.Machine.lean ====
/- The frame of the products call at the machine's own values: the program printed for the machine and the one printed for
   reading over the reals are the same text, so the run proved for any values is a run of either. -/
module

public import proofs.«01_k».proof.Proof.Gram.Frame
public import proofs.«01_k».proof.Proof.Gen.Gram.Launch

@[expose] public section

set_option maxRecDepth 16384

noncomputable section

namespace Cert.Gram.Hand

set_option maxHeartbeats 1000000
open Idealize.ShloMosaic Idealize.ShloMosaic.TcCoe
open Idealize.SL.Sem
open Cert.Gram Cert.Gram.Gen

variable {F : FTy → Type} [FloatOps F]

/-- The two printed bodies are one, -/
theorem body_same (i arg2 harg2 arg3 harg3 arg4 harg4 arg5 harg5 arg6 harg6 arg7 harg7) :
    cc0_gram_bmat (F := F) i arg2 harg2 arg3 harg3 arg4 harg4 arg5 harg5 arg6 harg6 arg7 harg7
      = Cert.GramIdeal.cc0_gram_bmat (F := F) i arg2 harg2 arg3 harg3 arg4 harg4 arg5 harg5 arg6 harg6 arg7 harg7 := rfl

/-- and so are the two programs. -/
theorem main_same : main (F := F) = Cert.GramIdeal.main (F := F) := rfl
theorem row_same (k : Λ₀.Label) (x : Λ₀.Args k) : defs₀ (F := F) .tc k x = Cert.GramIdeal.defs₀ (F := F) .tc k x := by
  match k, x with
  | ⟨0, _⟩, (t, s) => rfl
theorem defs₀_same : defs₀ (F := F) = Cert.GramIdeal.defs₀ (F := F) := by
  funext k
  match k with
  | .tc => funext l x; exact row_same l x
  | .scScalar _ => rfl
  | .scVector _ _ => rfl
theorem defs_same : defs (F := F) = Cert.GramIdeal.defs (F := F) :=
  congrArg (Pipeline.defs pcfgs) defs₀_same

theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) := by
  rw [defs_same]
  exact Cert.GramIdeal.Hand.frame (F := F) m ρ

end Cert.Gram.Hand
-- ==== Proof.Gram.Value.lean ====
/- What the products call computes over the reals: each batch's products `x xᵀ`, and the polynomial `b a + c a a` of them. The
   body computes the tiles on and above the diagonal and mirrors the rest: the products are symmetric, so the mirror is the
   entry itself. -/
module

public import proofs.«01_k».proof.Proof.Gram.Frame
public import Idealize.ShloMosaic.Lib.Pipeline.ValueKit
public import Idealize.ShloMosaic.Lib.Pointwise
public import proofs.«01_k».proof.Proof.Gen.GramRefIdeal.Read

@[expose] public section

set_option maxRecDepth 16384

noncomputable section

namespace Cert.GramIdeal.Hand

open Idealize.ShloMosaic Idealize.ShloMosaic.TcCoe Idealize.ShloMosaic.Tactic
open Cert.GramIdeal Cert.GramIdeal.Gen

/-! ## The body's words at an index -/

theorem pay1_apply (u v : Vec Ideal S1x512x7168 .bf16) (z : S512x512.Idx) :
    k0_pay1 u v z = ∑ k : Fin 7168, (u (ix3 (0 : Fin 1) (z 0) k) : EReal) * v (ix3 (0 : Fin 1) (z 1) k) := by
  pointwise [k0_pay1]

theorem pay2_apply (u v : Vec Ideal S1x512x7168 .bf16) (z : S1x512x512.Idx) :
    k0_pay2 u v z = ∑ k : Fin 7168, (u (ix3 (0 : Fin 1) (z 1) k) : EReal) * v (ix3 (0 : Fin 1) (z 2) k) := by
  refine Eq.trans ?_ (pay1_apply u v (ix2 (z 1) (z 2)))
  unfold k0_pay2
  generalize k0_pay1 u v = p
  pointwise

theorem pay3_apply (u v : Vec Ideal S1x512x7168 .bf16) (z : S1x512x512.Idx) :
    k0_pay3 u v z = ∑ k : Fin 7168, (u (ix3 (0 : Fin 1) (z 2) k) : EReal) * v (ix3 (0 : Fin 1) (z 1) k) := by
  refine Eq.trans ?_ (pay1_apply u v (ix2 (z 2) (z 1)))
  unfold k0_pay3
  generalize k0_pay1 u v = p
  pointwise

/-- The polynomial's two coefficients. -/
abbrev cB : EReal := FloatOps.ofBits (F := Ideal) .f32 0xC098CCCD#32
abbrev cC : EReal := FloatOps.ofBits (F := Ideal) .f32 0x40020419#32

theorem pay6_apply (R : Vec Ideal S1x512x2048 .bf16) (C : Vec Ideal S1x2048x512 .bf16) (T : Vec Ideal S1x512x512 .bf16) (z : S512x512.Idx) :
    k0_pay6 R C T z = cB * T (ix3 (0 : Fin 1) (z 0) (z 1))
      + cC * ∑ k : Fin 2048, (R (ix3 (0 : Fin 1) (z 0) k) : EReal) * C (ix3 (0 : Fin 1) k (z 1)) := by
  pointwise [k0_pay6]

theorem pay5_apply (R : Vec Ideal S1x512x2048 .bf16) (C : Vec Ideal S1x2048x512 .bf16) (T : Vec Ideal S1x512x512 .bf16) (z : S1x512x512.Idx) :
    k0_pay5 R C T z = cB * T (ix3 (0 : Fin 1) (z 1) (z 2))
      + cC * ∑ k : Fin 2048, (R (ix3 (0 : Fin 1) (z 1) k) : EReal) * C (ix3 (0 : Fin 1) k (z 2)) := by
  have hz : T z = T (ix3 (0 : Fin 1) (z 1) (z 2)) := congrArg T (funext fun a => match a with
    | ⟨0, _⟩ => Fin.ext (Nat.lt_one_iff.mp (z 0).isLt)
    | ⟨1, _⟩ => rfl
    | ⟨2, _⟩ => rfl)
  rw [← hz]
  pointwise [k0_pay5]

theorem pay8_apply (p : FVec Ideal S512x512 .bf16) (z : S1x512x512.Idx) : k0_pay8 p z = p (ix2 (z 2) (z 1)) := by
  pointwise [k0_pay8]

/-! ## The blocks at an index -/

theorem at_tl_lo (n : Fin 2048) : at_ (tl n) (lo n) = n := Fin.ext (Nat.div_add_mod n.val 512)

/-- Entry `(r, s)` of batch `b`'s products. -/
def gram (x : Vec Ideal S4x2048x7168 .bf16) (b : Fin 4) (r s : Fin 2048) : EReal :=
  ∑ k : Fin 7168, (x (ix3 b r k) : EReal) * x (ix3 b s k)

theorem gram_symm (x : Vec Ideal S4x2048x7168 .bf16) (b : Fin 4) (r s : Fin 2048) : gram x b r s = gram x b s r :=
  Finset.sum_congr rfl fun _ _ => mul_comm _ _

/-- A tile on or above the diagonal holds its entries, and the mirror of one below holds them too. -/
theorem prod_apply (x : Vec Ideal S4x2048x7168 .bf16) (b : Fin 4) (y : S1x2048x2048.Idx) :
    prod x b y = gram x b (y 1) (y 2) := by
  unfold prod
  split
  · refine (pay2_apply _ _ _).trans (Finset.sum_congr rfl fun k _ => ?_)
    exact congrArg₂ (fun r s => (x (ix3 b r k) : EReal) * x (ix3 b s k)) (at_tl_lo (y 1)) (at_tl_lo (y 2))
  · refine (pay3_apply _ _ _).trans (Eq.trans (Finset.sum_congr rfl fun k _ => ?_) (gram_symm x b (y 2) (y 1)))
    exact congrArg₂ (fun r s => (x (ix3 b r k) : EReal) * x (ix3 b s k)) (at_tl_lo (y 2)) (at_tl_lo (y 1))

/-- The polynomial `b g + c g g` of a matrix, at entry `(r, s)`. -/
def poly (g : Fin 2048 → Fin 2048 → EReal) (r s : Fin 2048) : EReal :=
  cB * g r s + cC * ∑ k : Fin 2048, g r k * g k s

theorem poly_symm (g : Fin 2048 → Fin 2048 → EReal) (hg : ∀ r s, g r s = g s r) (r s : Fin 2048) : poly g r s = poly g s r := by
  unfold poly
  rw [hg r s]
  refine congrArg (fun t => cB * g s r + cC * t) (Finset.sum_congr rfl fun k _ => ?_)
  rw [hg r k, hg k s, mul_comm]

/-- The second result's block of a symmetric first one. -/
theorem bmat_apply (g : Fin 2048 → Fin 2048 → EReal) (hg : ∀ r s, g r s = g s r) (a : Vec Ideal S1x2048x2048 .bf16)
    (ha : ∀ y, a y = g (y 1) (y 2)) (y : S1x2048x2048.Idx) : bmat a y = poly g (y 1) (y 2) := by
  have hR : ∀ (p : Fin 4) z, rowsOf a p z = g (at_ p (z 1)) (z 2) := fun p z => ha _
  have hC : ∀ (p : Fin 4) z, colsOf a p z = g (z 1) (at_ p (z 2)) := fun p z => ha _
  have hT : ∀ (p q : Fin 4) z, tileOf a p q z = g (at_ p (z 1)) (at_ q (z 2)) := fun p q z => ha _
  unfold bmat
  split
  · unfold bTile
    rw [pay5_apply, hT]
    simp only [hR, hC]
    exact congrArg₂ (poly g) (at_tl_lo (y 1)) (at_tl_lo (y 2))
  · unfold bMirror
    rw [pay8_apply, pay6_apply, hT]
    simp only [hR, hC]
    exact (congrArg₂ (poly g) (at_tl_lo (y 2)) (at_tl_lo (y 1))).trans (poly_symm g hg (y 2) (y 1))

/-! ## The results are the reference's -/

open Cert.GramRefIdeal.Read in
theorem ref_gram (x : Vec Ideal S4x2048x7168 .bf16) (i : S4x2048x2048.Idx) :
    val_main_v1 (F := Ideal) x i = gram x (i 0) (i 1) (i 2) := by
  refine (val_main_v0_apply x i).trans (Finset.sum_congr rfl fun k _ => ?_)
  refine congrArg₂ (fun u v : EReal => u * v) (congrArg x (funext fun a => ?_)) (congrArg x (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl

open Cert.GramRefIdeal.Read in
theorem ref_poly (x : Vec Ideal S4x2048x7168 .bf16) (i : S4x2048x2048.Idx) :
    val_main_v9 (F := Ideal) x i = poly (gram x (i 0)) (i 1) (i 2) := by
  have h1 := ref_gram x
  have h2 : val_main_v2 (F := Ideal) x i = ∑ k : Fin 2048, gram x (i 0) (i 1) k * gram x (i 0) k (i 2) := by
    refine (val_main_v2_apply x i).trans (Finset.sum_congr rfl fun k _ => ?_)
    rw [h1, h1]
    rfl
  show cB * val_main_v1 (F := Ideal) x i + cC * val_main_v2 (F := Ideal) x i = _
  rw [h2, h1]
  rfl

theorem prods_eq (x : Vec Ideal S4x2048x7168 .bf16) : prods x = Cert.GramRefIdeal.Read.val_main_v1 (F := Ideal) x :=
  funext fun i => (prod_apply x (i 0) _).trans (ref_gram x i).symm

theorem bmats_eq (x : Vec Ideal S4x2048x7168 .bf16) : bmats x = Cert.GramRefIdeal.Read.val_main_v9 (F := Ideal) x :=
  funext fun i => (bmat_apply (gram x (i 0)) (gram_symm x (i 0)) _ (prod_apply x (i 0)) _).trans (ref_poly x i).symm

end Cert.GramIdeal.Hand
-- ==== Proof.lean ====
module

public import proofs.«01_k».proof.Defs
public import proofs.«01_k».proof.Proof.Gen.Gram
public import proofs.«01_k».proof.Proof.Gen.Gram.Skeleton
public import proofs.«01_k».proof.Proof.Gen.Gram.Launch
public import proofs.«01_k».proof.Proof.Gen.GramIdeal
public import proofs.«01_k».proof.Proof.Gen.GramIdeal.Skeleton
public import proofs.«01_k».proof.Proof.Gen.GramIdeal.Launch
public import proofs.«01_k».proof.Proof.Gen.GramRefIdeal
public import proofs.«01_k».proof.Proof.Gen.GramRefIdeal.Run
public import proofs.«01_k».proof.Proof.Gen.GramRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalIdeal.Value
public import proofs.«01_k».proof.Proof.Gen.Momentum
public import proofs.«01_k».proof.Proof.Gen.Momentum.Skeleton
public import proofs.«01_k».proof.Proof.Gen.Momentum.Launch
public import proofs.«01_k».proof.Proof.Gen.Momentum.Points
public import proofs.«01_k».proof.Proof.Gen.Momentum.Frame
public import proofs.«01_k».proof.Proof.Gen.MomentumIdeal
public import proofs.«01_k».proof.Proof.Gen.MomentumIdeal.Skeleton
public import proofs.«01_k».proof.Proof.Gen.MomentumIdeal.Launch
public import proofs.«01_k».proof.Proof.Gen.MomentumIdeal.Points
public import proofs.«01_k».proof.Proof.Gen.MomentumIdeal.Frame
public import proofs.«01_k».proof.Proof.Gen.MomentumIdeal.Value
public import proofs.«01_k».proof.Proof.Gen.MomentumRefIdeal
public import proofs.«01_k».proof.Proof.Gen.MomentumRefIdeal.Skeleton
public import proofs.«01_k».proof.Proof.Gen.MomentumRefIdeal.Launch
public import proofs.«01_k».proof.Proof.Gen.MomentumRefIdeal.Points
public import proofs.«01_k».proof.Proof.Gen.MomentumRefIdeal.Frame
public import proofs.«01_k».proof.Proof.Gen.MomentumRefIdeal.Value
public import proofs.«01_k».proof.Proof.Gen.Apply
public import proofs.«01_k».proof.Proof.Gen.Apply.Skeleton
public import proofs.«01_k».proof.Proof.Gen.Apply.Launch
public import proofs.«01_k».proof.Proof.Gen.Apply.Points
public import proofs.«01_k».proof.Proof.Gen.Apply.Frame
public import proofs.«01_k».proof.Proof.Gen.ApplyIdeal
public import proofs.«01_k».proof.Proof.Gen.ApplyIdeal.Skeleton
public import proofs.«01_k».proof.Proof.Gen.ApplyIdeal.Launch
public import proofs.«01_k».proof.Proof.Gen.ApplyIdeal.Points
public import proofs.«01_k».proof.Proof.Gen.ApplyIdeal.Frame
public import proofs.«01_k».proof.Proof.Gen.ApplyIdeal.Value
public import proofs.«01_k».proof.Proof.Gen.ApplyRefIdeal
public import proofs.«01_k».proof.Proof.Gen.ApplyRefIdeal.Run
public import proofs.«01_k».proof.Proof.Gen.ApplyRefIdeal.Read
public import proofs.«01_k».proof.Proof.Gen.XZero
public import proofs.«01_k».proof.Proof.Gen.XZero.Skeleton
public import proofs.«01_k».proof.Proof.Gen.XZero.Launch
public import proofs.«01_k».proof.Proof.Gen.XZero.Points
public import proofs.«01_k».proof.Proof.Gen.XZero.Frame
public import proofs.«01_k».proof.Proof.Gen.XZeroIdeal
public import proofs.«01_k».proof.Proof.Gen.XZeroIdeal.Skeleton
public import proofs.«01_k».proof.Proof.Gen.XZeroIdeal.Launch
public import proofs.«01_k».proof.Proof.Gen.XZeroIdeal.Points
public import proofs.«01_k».proof.Proof.Gen.XZeroIdeal.Frame
public import proofs.«01_k».proof.Proof.Gen.XZeroIdeal.Value
public import proofs.«01_k».proof.Proof.Gen.XZeroRefIdeal
public import proofs.«01_k».proof.Proof.Gen.XZeroRefIdeal.Skeleton
public import proofs.«01_k».proof.Proof.Gen.XZeroRefIdeal.Launch
public import proofs.«01_k».proof.Proof.Gen.XZeroRefIdeal.Points
public import proofs.«01_k».proof.Proof.Gen.XZeroRefIdeal.Frame
public import proofs.«01_k».proof.Proof.Gen.XZeroRefIdeal.Value
public import proofs.«01_k».proof.Proof.Final.Value
public import proofs.«01_k».proof.Proof.Momentum.Value
public import proofs.«01_k».proof.Proof.Apply.Value
public import proofs.«01_k».proof.Proof.XZero.Value
public import proofs.«01_k».proof.Proof.Gram.Machine
public import proofs.«01_k».proof.Proof.Gram.Value
public import Idealize.ShloMosaic.Lib.Quiescent
public import proofs.«01_k».proof.Proof.Gen.FinalRefIdeal.Run
public import proofs.«01_k».proof.Proof.Gen.FinalRefIdeal.Read
public import Idealize.ShloMosaic.Adequacy
public import Idealize.ShloMosaic.Init

@[expose] public section

noncomputable section

namespace Cert.Proof

open Idealize.ShloMosaic Idealize.SL.Sem

theorem final_ref_frame : Cert.quiescent_FinalRefIdeal (hFinalRefIdeal := Cert.FinalRefIdeal.Gen.facts) := by
  intro m g _
  exact (θ_run (Cert.FinalRefIdeal.defs (F := Ideal)) _ _).mono
    (fun r h => ⟨fun c => (h c).2.2, sem_eq_zero_of_no_sems (by decide) r.2⟩) (Cert.FinalRefIdeal.Value.run (F := Ideal) m g)

theorem final_algebraic : Cert.algebraic_FinalIdeal_FinalRefIdeal (hFinalIdeal := Cert.FinalIdeal.Gen.facts)
    (hFinalRefIdeal := Cert.FinalRefIdeal.Gen.facts) := by
  intro m g m' g' _ hargs
  refine ⟨fun c => Cert.FinalRefIdeal.Read.val_main_v13 (F := Ideal) (m ((c.tc : Thread _ _).loc Cert.FinalIdeal.main_arg0))
      (m ((c.tc : Thread _ _).loc Cert.FinalIdeal.main_arg1)) (m ((c.tc : Thread _ _).loc Cert.FinalIdeal.main_arg2)),
    fun c => Cert.FinalRefIdeal.Read.val_main_v14 (F := Ideal) (m ((c.tc : Thread _ _).loc Cert.FinalIdeal.main_arg0))
      (m ((c.tc : Thread _ _).loc Cert.FinalIdeal.main_arg1)),
    (θ_run _ _ _).mono (fun r h c => ?_) (Cert.FinalIdeal.Value.run_blocks m g),
    (θ_run (Cert.FinalRefIdeal.defs (F := Ideal)) _ _).mono (fun r h c => ?_) (Cert.FinalRefIdeal.Value.run (F := Ideal) m' g')⟩
  · obtain ⟨h0, h1, hk⟩ := h c
    exact ⟨h0.trans (Cert.Proof.Final.final3 m c), h1.trans (Cert.Proof.Final.final4 m c), hk⟩
  · obtain ⟨h0, h1, hk⟩ := h c
    obtain ⟨a0, a1, a2⟩ := hargs c
    rw [Cert.FinalRefIdeal.Read.val_main_v13_eq, a0, a1, a2] at h0
    rw [Cert.FinalRefIdeal.Read.val_main_v14_eq, a0, a1] at h1
    exact ⟨h0, h1, hk⟩

theorem momentum_algebraic : Cert.algebraic_MomentumIdeal_MomentumRefIdeal (hMomentumIdeal := Cert.MomentumIdeal.Gen.facts)
    (hMomentumRefIdeal := Cert.MomentumRefIdeal.Gen.facts) := by
  intro m g m' g' _ hargs
  refine ⟨fun c => Cert.MomentumRefIdeal.Value.G3 (F := Ideal) (m ((c.tc : Thread _ _).loc Cert.MomentumIdeal.main_arg0))
      (m ((c.tc : Thread _ _).loc Cert.MomentumIdeal.main_arg1)) (m ((c.tc : Thread _ _).loc Cert.MomentumIdeal.main_arg2)),
    fun c => Cert.MomentumRefIdeal.Value.G4 (F := Ideal) (m ((c.tc : Thread _ _).loc Cert.MomentumIdeal.main_arg0))
      (m ((c.tc : Thread _ _).loc Cert.MomentumIdeal.main_arg1)) (m ((c.tc : Thread _ _).loc Cert.MomentumIdeal.main_arg2)),
    fun c => Cert.MomentumRefIdeal.Value.G5 (F := Ideal) (m ((c.tc : Thread _ _).loc Cert.MomentumIdeal.main_arg0))
      (m ((c.tc : Thread _ _).loc Cert.MomentumIdeal.main_arg1)) (m ((c.tc : Thread _ _).loc Cert.MomentumIdeal.main_arg2)),
    (θ_run _ _ _).mono (fun r h c => ?_) (Cert.MomentumIdeal.Value.run_blocks m g),
    (θ_run _ _ _).mono (fun r h c => ?_) (Cert.MomentumRefIdeal.Value.run (F := Ideal) m' g')⟩
  · obtain ⟨h0, h1, h2, hk⟩ := h c
    exact ⟨h0.trans (Cert.Proof.Momentum.final3 m c), h1.trans (Cert.Proof.Momentum.final4 m c),
      h2.trans (Cert.Proof.Momentum.final5 m c), hk⟩
  · obtain ⟨h0, h1, h2, hk⟩ := h c
    obtain ⟨a0, a1, a2⟩ := hargs c
    rw [a0, a1, a2] at h0 h1 h2
    exact ⟨h0, h1, h2, hk⟩

theorem apply_ref_frame : Cert.quiescent_ApplyRefIdeal (hApplyRefIdeal := Cert.ApplyRefIdeal.Gen.facts) := by
  intro m g _
  exact (θ_run (Cert.ApplyRefIdeal.defs (F := Ideal)) _ _).mono
    (fun r h => ⟨fun c => (h c).2, sem_eq_zero_of_no_sems (by decide) r.2⟩) (Cert.ApplyRefIdeal.Value.run (F := Ideal) m g)

theorem apply_algebraic : Cert.algebraic_ApplyIdeal_ApplyRefIdeal (hApplyIdeal := Cert.ApplyIdeal.Gen.facts)
    (hApplyRefIdeal := Cert.ApplyRefIdeal.Gen.facts) := by
  intro m g m' g' _ hargs
  refine ⟨fun c => Cert.ApplyRefIdeal.Read.val_main_v5 (F := Ideal) (m ((c.tc : Thread _ _).loc Cert.ApplyIdeal.main_arg0))
      (m ((c.tc : Thread _ _).loc Cert.ApplyIdeal.main_arg1)),
    (θ_run _ _ _).mono (fun r h c => ?_) (Cert.ApplyIdeal.Value.run_blocks m g),
    (θ_run (Cert.ApplyRefIdeal.defs (F := Ideal)) _ _).mono (fun r h c => ?_) (Cert.ApplyRefIdeal.Value.run (F := Ideal) m' g')⟩
  · obtain ⟨h0, hk⟩ := h c
    exact ⟨h0.trans (Cert.Proof.Apply.final2 m c), hk⟩
  · obtain ⟨h0, hk⟩ := h c
    obtain ⟨a0, a1⟩ := hargs c
    rw [Cert.ApplyRefIdeal.Read.val_main_v5_eq, a0, a1] at h0
    exact ⟨h0, hk⟩

theorem xzero_algebraic : Cert.algebraic_XZeroIdeal_XZeroRefIdeal (hXZeroIdeal := Cert.XZeroIdeal.Gen.facts)
    (hXZeroRefIdeal := Cert.XZeroRefIdeal.Gen.facts) := by
  intro m g m' g' _ hargs
  refine ⟨fun c => Cert.XZeroRefIdeal.Value.G4 (F := Ideal) (m ((c.tc : Thread _ _).loc Cert.XZeroIdeal.main_arg0))
      (m ((c.tc : Thread _ _).loc Cert.XZeroIdeal.main_arg1)) (m ((c.tc : Thread _ _).loc Cert.XZeroIdeal.main_arg2))
      (m ((c.tc : Thread _ _).loc Cert.XZeroIdeal.main_arg3)),
    (θ_run _ _ _).mono (fun r h c => ?_) (Cert.XZeroIdeal.Value.run_blocks m g),
    (θ_run _ _ _).mono (fun r h c => ?_) (Cert.XZeroRefIdeal.Value.run (F := Ideal) m' g')⟩
  · obtain ⟨h0, hk⟩ := h c
    exact ⟨h0.trans (Cert.Proof.XZero.final4 m c), hk⟩
  · obtain ⟨h0, hk⟩ := h c
    obtain ⟨a0, a1, a2, a3⟩ := hargs c
    rw [a0, a1, a2, a3] at h0
    exact ⟨h0, hk⟩

theorem gram_ref_frame : Cert.quiescent_GramRefIdeal (hGramRefIdeal := Cert.GramRefIdeal.Gen.facts) := by
  intro m g _
  exact (θ_run (Cert.GramRefIdeal.defs (F := Ideal)) _ _).mono
    (fun r h => ⟨fun c => (h c).2.2, sem_eq_zero_of_no_sems (by decide) r.2⟩) (Cert.GramRefIdeal.Value.run (F := Ideal) m g)

theorem gram_algebraic : Cert.algebraic_GramIdeal_GramRefIdeal (hGramIdeal := Cert.GramIdeal.Gen.facts)
    (hGramRefIdeal := Cert.GramRefIdeal.Gen.facts) := by
  intro m g m' g' _ hargs
  refine ⟨fun c => Cert.GramRefIdeal.Read.val_main_v1 (F := Ideal) (m ((c.tc : Thread _ _).loc Cert.GramIdeal.main_arg0)),
    fun c => Cert.GramRefIdeal.Read.val_main_v9 (F := Ideal) (m ((c.tc : Thread _ _).loc Cert.GramIdeal.main_arg0)),
    (θ_run _ _ _).mono (fun r h c => ?_) (Cert.GramIdeal.Hand.run_main m g),
    (θ_run (Cert.GramRefIdeal.defs (F := Ideal)) _ _).mono (fun r h c => ?_) (Cert.GramRefIdeal.Value.run (F := Ideal) m' g')⟩
  · obtain ⟨h0, h1, hk⟩ := h.1 c
    exact ⟨h0.trans (Cert.GramIdeal.Hand.prods_eq _), h1.trans (Cert.GramIdeal.Hand.bmats_eq _), hk⟩
  · obtain ⟨h0, h1, hk⟩ := h c
    have a0 := hargs c
    rw [Cert.GramRefIdeal.Read.val_main_v1_eq, a0] at h0
    rw [Cert.GramRefIdeal.Read.val_main_v9_eq, a0] at h1
    exact ⟨h0, h1, hk⟩

theorem claim : Cert.Claim := ⟨Cert.Final.Gen.facts, Cert.FinalIdeal.Gen.facts, Cert.FinalRefIdeal.Gen.facts,
  Cert.Momentum.Gen.facts, Cert.MomentumIdeal.Gen.facts, Cert.MomentumRefIdeal.Gen.facts,
  Cert.Apply.Gen.facts, Cert.ApplyIdeal.Gen.facts, Cert.ApplyRefIdeal.Gen.facts,
  Cert.XZero.Gen.facts, Cert.XZeroIdeal.Gen.facts, Cert.XZeroRefIdeal.Gen.facts,
  Cert.Gram.Gen.facts, Cert.GramIdeal.Gen.facts, Cert.GramRefIdeal.Gen.facts,
  fun m g _ => Cert.Final.Gen.frame m g, fun m g _ => Cert.FinalIdeal.Gen.frame m g, final_ref_frame,
  fun m g _ => Cert.Momentum.Gen.frame m g, fun m g _ => Cert.MomentumIdeal.Gen.frame m g,
  fun m g _ => Cert.MomentumRefIdeal.Gen.frame m g,
  fun m g _ => Cert.Apply.Gen.frame m g, fun m g _ => Cert.ApplyIdeal.Gen.frame m g, apply_ref_frame,
  fun m g _ => Cert.XZero.Gen.frame m g, fun m g _ => Cert.XZeroIdeal.Gen.frame m g,
  fun m g _ => Cert.XZeroRefIdeal.Gen.frame m g,
  fun m g _ => Cert.Gram.Hand.frame m g, fun m g _ => Cert.GramIdeal.Hand.frame m g, gram_ref_frame,
  trivial, final_algebraic, trivial, momentum_algebraic, trivial, apply_algebraic, trivial, xzero_algebraic,
  trivial, gram_algebraic⟩

end Cert.Proof

end
